-- ==== Defs.lean ====
def Pre_Kernel [hPre_chosen : Cert.Pre_chosen.Facts] (m : (ℓ : Loc Cert.Kernel.nD Cert.Kernel.τ Cert.Kernel.sig) → Buf (Elt Bits) ℓ) : Prop :=
  ∀ c : Dev Cert.Kernel.nD,
    (Cert.Pre_chosen.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_chosen : Cert.Pre_chosen.Facts] (m : (ℓ : Loc Cert.KernelIdeal.nD Cert.KernelIdeal.τ Cert.KernelIdeal.sig) → Buf (Elt Ideal) ℓ) : Prop :=
  ∀ c : Dev Cert.KernelIdeal.nD,
    (Cert.Pre_chosen.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_chosen : Cert.Pre_chosen.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chosen.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite [hPre_finite : Cert.Pre_finite.Facts] (m : (ℓ : Loc Cert.RouterIdeal.nD Cert.RouterIdeal.τ Cert.RouterIdeal.sig) → Buf (Elt Ideal) ℓ) : Prop :=
  ∀ c : Dev Cert.RouterIdeal.nD,
    (Cert.Pre_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite [hPre_finite : Cert.Pre_finite.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2)) (m ((c.tc : Thread Cert.RouterReferenceIdeal.nD Cert.RouterReferenceIdeal.τ).loc Cert.RouterReferenceIdeal.main_arg3))) = (fun _ => 1#1)

def quiescent_Kernel [hKernel : Cert.Kernel.Facts] [hPre_chosen : Cert.Pre_chosen.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_chosen : Cert.Pre_chosen.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_chosen : Cert.Pre_chosen.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterIdeal_pre_finite [hRouterIdeal : Cert.RouterIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3))
      ∧ r.2.sem = fun _ => 0)

def quiescent_RouterReferenceIdeal_pre_finite [hRouterReferenceIdeal : Cert.RouterReferenceIdeal.Facts] [hPre_finite : Cert.Pre_finite.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_chosen : Cert.Pre_chosen.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Router_RouterIdeal : Prop :=
  IdealRules.named_const.Statement Cert.RouterIdeal.κ "mask" .f32 0xFF61B1E6#32 ⊥

def algebraic_RouterIdeal_RouterReferenceIdeal_pre_finite [hRouterIdeal : Cert.RouterIdeal.Facts] [hRouterReferenceIdeal : Cert.RouterReferenceIdeal.Facts] [hPre_finite : Cert.Pre_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)) →
    ∃ (v0 : (c : Dev Cert.RouterIdeal.nD) → Buf (Elt Ideal) ((c.tc : Thread Cert.RouterIdeal.nD Cert.RouterIdeal.τ).loc Cert.RouterIdeal.main_v6_0)) (v1 : (c : Dev Cert.RouterIdeal.nD) → Buf (Elt Ideal) ((c.tc : Thread Cert.RouterIdeal.nD Cert.RouterIdeal.τ).loc Cert.RouterIdeal.main_v6_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v6_0) = v0 c
          ∧ r.2.mem ((c.tc : Thread Cert.RouterIdeal.nD Cert.RouterIdeal.τ).loc Cert.RouterIdeal.main_v6_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v77) = v0 c
          ∧ r.2.mem ((c.tc : Thread Cert.RouterReferenceIdeal.nD Cert.RouterReferenceIdeal.τ).loc Cert.RouterReferenceIdeal.main_v78) = v1 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3))

def Claim : Prop :=
  ∃ (hKernel : Cert.Kernel.Facts) (hKernelIdeal : Cert.KernelIdeal.Facts) (hReferenceIdeal : Cert.ReferenceIdeal.Facts) (hRouter : Cert.Router.Facts) (hRouterIdeal : Cert.RouterIdeal.Facts) (hRouterReferenceIdeal : Cert.RouterReferenceIdeal.Facts) (hPre_chosen : Cert.Pre_chosen.Facts) (hPre_finite : Cert.Pre_finite.Facts),
    quiescent_Kernel (hKernel := hKernel) (hPre_chosen := hPre_chosen)
    ∧ quiescent_KernelIdeal (hKernelIdeal := hKernelIdeal) (hPre_chosen := hPre_chosen)
    ∧ quiescent_ReferenceIdeal (hReferenceIdeal := hReferenceIdeal) (hPre_chosen := hPre_chosen)
    ∧ quiescent_Router (hRouter := hRouter)
    ∧ quiescent_RouterIdeal (hRouterIdeal := hRouterIdeal)
    ∧ quiescent_RouterIdeal_pre_finite (hRouterIdeal := hRouterIdeal) (hPre_finite := hPre_finite)
    ∧ quiescent_RouterReferenceIdeal (hRouterReferenceIdeal := hRouterReferenceIdeal)
    ∧ quiescent_RouterReferenceIdeal_pre_finite (hRouterReferenceIdeal := hRouterReferenceIdeal) (hPre_finite := hPre_finite)
    ∧ preserves_Kernel_KernelIdeal
    ∧ algebraic_KernelIdeal_ReferenceIdeal (hKernelIdeal := hKernelIdeal) (hReferenceIdeal := hReferenceIdeal) (hPre_chosen := hPre_chosen)
    ∧ preserves_Router_RouterIdeal
    ∧ algebraic_RouterIdeal_RouterReferenceIdeal_pre_finite (hRouterIdeal := hRouterIdeal) (hRouterReferenceIdeal := hRouterReferenceIdeal) (hPre_finite := hPre_finite)
-- ==== Pre_chosen.lean ====
abbrev S2x96x224x224 : Shape := ⟨4, ![2, 96, 224, 224]⟩
abbrev S2x16 : Shape := ⟨2, ![2, 16]⟩
abbrev S8x96x1x7x7 : Shape := ⟨5, ![8, 96, 1, 7, 7]⟩
abbrev S8x96 : Shape := ⟨2, ![8, 96]⟩
abbrev S96x1x7x7 : Shape := ⟨4, ![96, 1, 7, 7]⟩
abbrev S96 : Shape := ⟨1, ![96]⟩
abbrev S2x1 : Shape := ⟨2, ![2, 1]⟩
abbrev S2 : Shape := ⟨1, ![2]⟩
abbrev S_ : Shape := ⟨0, ![]⟩

class Facts : Prop where
  slices_S2x16_S2x1_0_0 : S2x16.Slices ![0, 0] S2x1
  shapeCasts_S2x1_S2 : S2x1.ShapeCasts S2
  slices_S2x16_S2x1_0_1 : S2x16.Slices ![0, 1] S2x1
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : FVec F S2x96x224x224 .f32) (main_arg1 : IVec S2x16 32) (main_arg2 : FVec F S8x96x1x7x7 .f32) (main_arg3 : FVec F S8x96 .f32) (main_arg4 : FVec F S96x1x7x7 .f32) (main_arg5 : FVec F S96 .f32) : IVec S_ 1 :=
  let main_v0 : IVec S2x1 32 := (extractStridedSlice S2x1 ![0, 0] · slices_S2x16_S2x1_0_0) main_arg1
  let main_v1 : IVec S2 32 := shapeCast S2 main_v0 shapeCasts_S2x1_S2
  let main_v2 : IVec S2x1 32 := (extractStridedSlice S2x1 ![0, 1] · slices_S2x16_S2x1_0_1) main_arg1
  let main_v3 : IVec S2 32 := shapeCast S2 main_v2 shapeCasts_S2x1_S2
  let main_c : IVec S_ 32 := constantI S_ 32 0#32
  let main_v4 : IVec S2 32 := broadcastInDim S2 ![] bcast_S_S2 main_c
  let main_v5 : IVec S2 1 := cmpi .sge main_v1 main_v4
  let main_c_0 : IVec S_ 32 := constantI S_ 32 8#32
  let main_v6 : IVec S2 32 := broadcastInDim S2 ![] bcast_S_S2 main_c_0
  let main_v7 : IVec S2 1 := cmpi .slt main_v1 main_v6
  let main_v8 : IVec S2 1 := andi main_v5 main_v7
  let main_c_1 : IVec S_ 32 := constantI S_ 32 0#32
  let main_v9 : IVec S2 32 := broadcastInDim S2 ![] bcast_S_S2 main_c_1
  let main_v10 : IVec S2 1 := cmpi .sge main_v3 main_v9
  let main_v11 : IVec S2 1 := andi main_v8 main_v10
  let main_c_2 : IVec S_ 32 := constantI S_ 32 8#32
  let main_v12 : IVec S2 32 := broadcastInDim S2 ![] bcast_S_S2 main_c_2
  let main_v13 : IVec S2 1 := cmpi .slt main_v3 main_v12
  let main_v14 : IVec S2 1 := andi main_v11 main_v13
  let main_v15 : IVec S2 1 := cmpi .ne main_v1 main_v3
  let main_v16 : IVec S2 1 := andi main_v14 main_v15
  let main_c_3 : IVec S_ 1 := constantI S_ 1 1#1
  let main_v17 : IVec S_ 1 := (fun x v => Host.reduce IntOp.andi x v reducesTo_S2_S_d0 h_S_) main_v16 main_c_3
  main_v17
-- ==== Pre_finite.lean ====
abbrev S2x96x224x224 : Shape := ⟨4, ![2, 96, 224, 224]⟩
abbrev S1x96x7x7 : Shape := ⟨4, ![1, 96, 7, 7]⟩
abbrev S1 : Shape := ⟨1, ![1]⟩
abbrev S50176x8 : Shape := ⟨2, ![50176, 8]⟩
abbrev S_ : Shape := ⟨0, ![]⟩

class Facts : Prop where
  bcast_S_S2x96x224x224 : S_.BroadcastsInDim S2x96x224x224 (![] : Fin 0 → Fin S2x96x224x224.rank)
  reducesTo_S2x96x224x224_S_d0_1_2_3 : S2x96x224x224.ReducesTo [0, 1, 2, 3] S_
  h_S_ : 0 < S_.numel
  bcast_S_S1x96x7x7 : S_.BroadcastsInDim S1x96x7x7 (![] : Fin 0 → Fin S1x96x7x7.rank)
  reducesTo_S1x96x7x7_S_d0_1_2_3 : S1x96x7x7.ReducesTo [0, 1, 2, 3] S_
  bcast_S_S1 : S_.BroadcastsInDim S1 (![] : Fin 0 → Fin S1.rank)
  reducesTo_S1_S_d0 : S1.ReducesTo [0] S_
  bcast_S_S50176x8 : S_.BroadcastsInDim S50176x8 (![] : Fin 0 → Fin S50176x8.rank)
  reducesTo_S50176x8_S_d0_1 : S50176x8.ReducesTo [0, 1] S_

variable [Facts]

def fn_part1 {F : FTy → Type} [FloatOps F] (main_v13 : IVec S_ 1) (main_v16 : IVec S50176x8 1) : IVec S_ 1 :=
  let main_c_5 : IVec S_ 1 := constantI S_ 1 1#1
  let main_v17 : IVec S_ 1 := (fun x v => Host.reduce IntOp.andi x v reducesTo_S50176x8_S_d0_1 h_S_) main_v16 main_c_5
  let main_v18 : IVec S_ 1 := andi main_v13 main_v17
  main_v18

def fn {F : FTy → Type} [FloatOps F] (main_arg0 : FVec F S2x96x224x224 .f32) (main_arg1 : FVec F S1x96x7x7 .f32) (main_arg2 : FVec F S1 .f32) (main_arg3 : FVec F S50176x8 .f32) : IVec S_ 1 :=
  let main_v0 : FVec F S2x96x224x224 .f32 := Host.absf main_arg0
  let main_cst : FVec F S_ .f32 := constant S_ .f32 0x7F800000#32
  let main_v1 : FVec F S2x96x224x224 .f32 := broadcastInDim S2x96x224x224 ![] bcast_S_S2x96x224x224 main_cst
  let main_v2 : IVec S2x96x224x224 1 := cmpf .olt main_v0 main_v1
  let main_c : IVec S_ 1 := constantI S_ 1 1#1
  let main_v3 : IVec S_ 1 := (fun x v => Host.reduce IntOp.andi x v reducesTo_S2x96x224x224_S_d0_1_2_3 h_S_) main_v2 main_c
  let main_v4 : FVec F S1x96x7x7 .f32 := Host.absf main_arg1
  let main_cst_0 : FVec F S_ .f32 := constant S_ .f32 0x7F800000#32
  let main_v5 : FVec F S1x96x7x7 .f32 := broadcastInDim S1x96x7x7 ![] bcast_S_S1x96x7x7 main_cst_0
  let main_v6 : IVec S1x96x7x7 1 := cmpf .olt main_v4 main_v5
  let main_c_1 : IVec S_ 1 := constantI S_ 1 1#1
  let main_v7 : IVec S_ 1 := (fun x v => Host.reduce IntOp.andi x v reducesTo_S1x96x7x7_S_d0_1_2_3 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S50176x8 .f32 := Host.absf main_arg3
  let main_cst_4 : FVec F S_ .f32 := constant S_ .f32 0x7F800000#32
  let main_v15 : FVec F S50176x8 .f32 := broadcastInDim S50176x8 ![] bcast_S_S50176x8 main_cst_4
  let main_v16 : IVec S50176x8 1 := cmpf .olt main_v14 main_v15
  fn_part1 (F := F) main_v13 main_v16
-- ==== Kernel.lean ====
abbrev S2x96x224x224 : Shape := ⟨4, ![2, 96, 224, 224]⟩
abbrev S2x16 : Shape := ⟨2, ![2, 16]⟩
abbrev S8x96x1x7x7 : Shape := ⟨5, ![8, 96, 1, 7, 7]⟩
abbrev S8x96 : Shape := ⟨2, ![8, 96]⟩
abbrev S96x1x7x7 : Shape := ⟨4, ![96, 1, 7, 7]⟩
abbrev S96 : Shape := ⟨1, ![96]⟩
abbrev S2x224x224x96 : Shape := ⟨4, ![2, 224, 224, 96]⟩
abbrev S_ : Shape := ⟨0, ![]⟩
abbrev S2x230x230x96 : Shape := ⟨4, ![2, 230, 230, 96]⟩
abbrev S8x96x7x7 : Shape := ⟨4, ![8, 96, 7, 7]⟩
abbrev S8x7x7x96 : Shape := ⟨4, ![8, 7, 7, 96]⟩
abbrev S8x1x96 : Shape := ⟨3, ![8, 1, 96]⟩
abbrev S96x7x7 : Shape := ⟨3, ![96, 7, 7]⟩
abbrev S7x7x96 : Shape := ⟨3, ![7, 7, 96]⟩
abbrev S1x96 : Shape := ⟨2, ![1, 96]⟩
abbrev S1x38x230x96 : Shape := ⟨4, ![1, 38, 230, 96]⟩
abbrev S1x32x224x96 : Shape := ⟨4, ![1, 32, 224, 96]⟩
abbrev S38x224x96 : Shape := ⟨3, ![38, 224, 96]⟩
abbrev S32x224x96 : Shape := ⟨3, ![32, 224, 96]⟩
abbrev S1x1 : Shape := ⟨2, ![1, 1]⟩
abbrev S1x38x224x96 : Shape := ⟨4, ![1, 38, 224, 96]⟩
abbrev S1x1x7x96 : Shape := ⟨4, ![1, 1, 7, 96]⟩
abbrev S7x96 : Shape := ⟨2, ![7, 96]⟩
abbrev S1x7x96 : Shape := ⟨3, ![1, 7, 96]⟩
abbrev S14x8x96 : Shape := ⟨3, ![14, 8, 96]⟩
abbrev S8x8x96 : Shape := ⟨3, ![8, 8, 96]⟩
abbrev S1x1x96 : Shape := ⟨3, ![1, 1, 96]⟩

abbrev nBuf : Space → Nat
  | .hbm => 17
  | .vmem => 12
  | .smem => 1
  | _ => 0

abbrev bufTy : (tb : Table) → Fin (tcTables nBuf tb) → BufTy
  | .hbm, ⟨0, _⟩ => ⟨S2x96x224x224, .f32⟩
  | .hbm, ⟨1, _⟩ => ⟨S2x16, .i32⟩
  | .hbm, ⟨2, _⟩ => ⟨S8x96x1x7x7, .f32⟩
  | .hbm, ⟨3, _⟩ => ⟨S8x96, .f32⟩
  | .hbm, ⟨4, _⟩ => ⟨S96x1x7x7, .f32⟩
  | .hbm, ⟨5, _⟩ => ⟨S96, .f32⟩
  | .hbm, ⟨6, _⟩ => ⟨S2x224x224x96, .f32⟩
  | .hbm, ⟨7, _⟩ => ⟨S_, .i32⟩
  | .hbm, ⟨8, _⟩ => ⟨S_, .f32⟩
  | .hbm, ⟨9, _⟩ => ⟨S2x230x230x96, .f32⟩
  | .hbm, ⟨10, _⟩ => ⟨S8x96x7x7, .f32⟩
  | .hbm, ⟨11, _⟩ => ⟨S8x7x7x96, .f32⟩
  | .hbm, ⟨12, _⟩ => ⟨S8x1x96, .f32⟩
  | .hbm, ⟨13, _⟩ => ⟨S96x7x7, .f32⟩
  | .hbm, ⟨14, _⟩ => ⟨S7x7x96, .f32⟩
  | .hbm, ⟨15, _⟩ => ⟨S1x96, .f32⟩
  | .hbm, ⟨16, _⟩ => ⟨S2x224x224x96, .f32⟩
  | .local _ .vmem, ⟨0, _⟩ => ⟨S1x38x230x96, .f32⟩
  | .local _ .vmem, ⟨1, _⟩ => ⟨S1x38x230x96, .f32⟩
  | .local _ .vmem, ⟨2, _⟩ => ⟨S8x7x7x96, .f32⟩
  | .local _ .vmem, ⟨3, _⟩ => ⟨S8x1x96, .f32⟩
  | .local _ .vmem, ⟨4, _⟩ => ⟨S7x7x96, .f32⟩
  | .local _ .vmem, ⟨5, _⟩ => ⟨S1x96, .f32⟩
  | .local _ .vmem, ⟨6, _⟩ => ⟨S1x32x224x96, .f32⟩
  | .local _ .vmem, ⟨7, _⟩ => ⟨S1x32x224x96, .f32⟩
  | .local _ .vmem, ⟨8, _⟩ => ⟨S38x224x96, .f32⟩
  | .local _ .vmem, ⟨9, _⟩ => ⟨S32x224x96, .f32⟩
  | .local _ .vmem, ⟨10, _⟩ => ⟨S32x224x96, .f32⟩
  | .local _ .vmem, ⟨11, _⟩ => ⟨S32x224x96, .f32⟩
  | .local _ .smem, ⟨0, _⟩ => ⟨S2x16, .i32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg1_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 7], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v2 : Index := Scalar.indexCast arg0
  let c1 : Index := 1#32
  ![v2.toNat, 1]
@[reducible] def k0_t1_loop : Scf.Loop 32 :=
  let c0_i32 : BitVec 32 := 0#32
  let c7_i32 : BitVec 32 := 7#32
  let v14 : BitVec 32 := Scalar.addi c0_i32 c7_i32
  let c1_i32 : BitVec 32 := 1#32
  ⟨c0_i32, v14, c1_i32⟩
def k0_off3 (k0_t1 : Fin k0_t1_loop.trips) : Fin 4 → Nat :=
  let c0_31 : Index := 0#32
  let c0_32 : Index := 0#32
  let c0_i32 : BitVec 32 := 0#32
  let c1_i32 : BitVec 32 := 1#32
  let arg13 : BitVec 32 := Scf.iv c0_i32 c1_i32 k0_t1
  let v47 : Index := Scalar.indexCast arg13
  let c0_33 : Index := 0#32
  ![0, 0, v47.toNat, 0]
def k0_off4 (v1 : BitVec 32) (k0_t1 : Fin k0_t1_loop.trips) : Fin 4 → Nat :=
  let v53 : Index := Scalar.indexCast v1
  let c0_i32 : BitVec 32 := 0#32
  let c1_i32 : BitVec 32 := 1#32
  let arg13 : BitVec 32 := Scf.iv c0_i32 c1_i32 k0_t1
  let v54 : Index := Scalar.indexCast arg13
  let c0_37 : Index := 0#32
  let c0_38 : Index := 0#32
  ![v53.toNat, v54.toNat, 0, 0]

def k0_off5 (v3 : BitVec 32) (k0_t1 : Fin k0_t1_loop.trips) : Fin 4 → Nat :=
  let v57 : Index := Scalar.indexCast v3
  let c0_i32 : BitVec 32 := 0#32
  let c1_i32 : BitVec 32 := 1#32
  let arg13 : BitVec 32 := Scf.iv c0_i32 c1_i32 k0_t1
  let v58 : Index := Scalar.indexCast arg13
  let c0_39 : Index := 0#32
  let c0_40 : Index := 0#32
  ![v57.toNat, v58.toNat, 0, 0]

def k0_off6 (k0_t1 : Fin k0_t1_loop.trips) : Fin 3 → Nat :=
  let c0_i32 : BitVec 32 := 0#32
  let c1_i32 : BitVec 32 := 1#32
  let arg13 : BitVec 32 := Scf.iv c0_i32 c1_i32 k0_t1
  let v61 : Index := Scalar.indexCast arg13
  let c0_41 : Index := 0#32
  let c0_42 : Index := 0#32
  ![v61.toNat, 0, 0]
@[reducible] def k0_t2_loop : Scf.Loop 32 :=
  let c0_i32_43 : BitVec 32 := 0#32
  let c28_i32 : BitVec 32 := 28#32
  let v64 : BitVec 32 := Scalar.addi c0_i32_43 c28_i32
  let c1_i32_44 : BitVec 32 := 1#32
  ⟨c0_i32_43, v64, c1_i32_44⟩
def k0_mult1 (k0_t2 : Fin k0_t2_loop.trips) : BitVec 32 :=
  let c0_i32_43 : BitVec 32 := 0#32
  let c1_i32_44 : BitVec 32 := 1#32
  let arg14 : BitVec 32 := Scf.iv c0_i32_43 c1_i32_44 k0_t2
  let c8_i32 : BitVec 32 := 8#32
  let v65 : BitVec 32 := Scalar.muli arg14 c8_i32
  v65
def k0_mult2 : BitVec 32 :=
  let c0_i32_46 : BitVec 32 := 0#32
  let c8_i32_47 : BitVec 32 := 8#32
  let v67 : BitVec 32 := Scalar.muli c0_i32_46 c8_i32_47
  v67
def k0_off7 (k0_t2 : Fin k0_t2_loop.trips) (c0_i32_46 : BitVec 32) : Fin 3 → Nat :=
  let c8_i32_47 : BitVec 32 := 8#32
  let v67 : BitVec 32 := Scalar.muli c0_i32_46 c8_i32_47
  let v68 : BitVec 32 := v67
  let v69 : Index := Scalar.indexCast v68
  let c0_i32_43 : BitVec 32 := 0#32
  let c1_i32_44 : BitVec 32 := 1#32
  let arg14 : BitVec 32 := Scf.iv c0_i32_43 c1_i32_44 k0_t2
  let c8_i32 : BitVec 32 := 8#32
  let v65 : BitVec 32 := Scalar.muli arg14 c8_i32
  let v66 : BitVec 32 := v65
  let v70 : Index := Scalar.indexCast v66
  let c0_48 : Index := 0#32
  ![v69.toNat, v70.toNat, 0]
def k0_off8 (k0_t2 : Fin k0_t2_loop.trips) (c0_i32_46 : BitVec 32) : Fin 3 → Nat :=
  let c8_i32_47 : BitVec 32 := 8#32
  let v67 : BitVec 32 := Scalar.muli c0_i32_46 c8_i32_47
  let v68 : BitVec 32 := v67
  let v72 : Index := Scalar.indexCast v68
  let c0_i32_43 : BitVec 32 := 0#32
  let c1_i32_44 : BitVec 32 := 1#32
  let arg14 : BitVec 32 := Scf.iv c0_i32_43 c1_i32_44 k0_t2
  let c8_i32 : BitVec 32 := 8#32
  let v65 : BitVec 32 := Scalar.muli arg14 c8_i32
  let v66 : BitVec 32 := v65
  let v73 : Index := Scalar.indexCast v66
  let c0_49 : Index := 0#32
  ![v72.toNat, v73.toNat, 0]
def k0_mult3 : BitVec 32 :=
  let c1_i32_55 : BitVec 32 := 1#32
  let c8_i32_56 : BitVec 32 := 8#32
  let v243 : BitVec 32 := Scalar.muli c1_i32_55 c8_i32_56
  v243
def k0_mult4 : BitVec 32 :=
  let c2_i32 : BitVec 32 := 2#32
  let c8_i32_64 : BitVec 32 := 8#32
  let v419 : BitVec 32 := Scalar.muli c2_i32 c8_i32_64
  v419
def k0_mult5 : BitVec 32 :=
  let c3_i32 : BitVec 32 := 3#32
  let c8_i32_72 : BitVec 32 := 8#32
  let v595 : BitVec 32 := Scalar.muli c3_i32 c8_i32_72
  v595
def k0_off9 (v1 : BitVec 32) : Fin 3 → Nat :=
  let v16 : Index := Scalar.indexCast v1
  let c0_13 : Index := 0#32
  let c0_14 : Index := 0#32
  ![v16.toNat, 0, 0]

def k0_chk1 (v1 : BitVec 32) : Prop :=
  (∀ k0_t1 : Fin k0_t1_loop.trips, ∀ a, (k0_off4 v1 k0_t1) a + S1x1x7x96.size a ≤ S8x7x7x96.size a) ∧
  (∀ a, (k0_off9 v1) a + S1x1x96.size a ≤ S8x1x96.size a)
theorem k0_off4_inb : ∀ (v1 : BitVec 32) (k0_hw1 : k0_chk1 v1) (k0_t1 : Fin k0_t1_loop.trips), ∀ a, (k0_off4 v1 k0_t1) a + S1x1x7x96.size a ≤ S8x7x7x96.size a := fun v1 k0_hw1 k0_t1 => k0_hw1.1 k0_t1
theorem k0_off9_inb : ∀ (v1 : BitVec 32) (k0_hw1 : k0_chk1 v1), ∀ a, (k0_off9 v1) a + S1x1x96.size a ≤ S8x1x96.size a := fun v1 k0_hw1 => k0_hw1.2

def k0_off10 (v3 : BitVec 32) : Fin 3 → Nat :=
  let v24 : Index := Scalar.indexCast v3
  let c0_18 : Index := 0#32
  let c0_19 : Index := 0#32
  ![v24.toNat, 0, 0]

def k0_chk2 (v3 : BitVec 32) : Prop :=
  (∀ k0_t1 : Fin k0_t1_loop.trips, ∀ a, (k0_off5 v3 k0_t1) a + S1x1x7x96.size a ≤ S8x7x7x96.size a) ∧
  (∀ a, (k0_off10 v3) a + S1x1x96.size a ≤ S8x1x96.size a)
theorem k0_off5_inb : ∀ (v3 : BitVec 32) (k0_hw2 : k0_chk2 v3) (k0_t1 : Fin k0_t1_loop.trips), ∀ a, (k0_off5 v3 k0_t1) a + S1x1x7x96.size a ≤ S8x7x7x96.size a := fun v3 k0_hw2 k0_t1 => k0_hw2.1 k0_t1
theorem k0_off10_inb : ∀ (v3 : BitVec 32) (k0_hw2 : k0_chk2 v3), ∀ a, (k0_off10 v3) a + S1x1x96.size a ≤ S8x1x96.size a := fun v3 k0_hw2 => k0_hw2.2

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c0_i32 : BitVec 32 := 0#32
  let c0_i32_0 : BitVec 32 := 0#32
  let c0_i32_1 : BitVec 32 := 0#32
  ![arg0.toNat, v0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x38x230x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .smem S2x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x7x7x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S7x7x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x224x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x96x224x224 : Shape := ⟨4, ![2, 96, 224, 224]⟩
abbrev S2x16 : Shape := ⟨2, ![2, 16]⟩
abbrev S8x96x1x7x7 : Shape := ⟨5, ![8, 96, 1, 7, 7]⟩
abbrev S8x96 : Shape := ⟨2, ![8, 96]⟩
abbrev S96x1x7x7 : Shape := ⟨4, ![96, 1, 7, 7]⟩
abbrev S96 : Shape := ⟨1, ![96]⟩
abbrev S_ : Shape := ⟨0, ![]⟩
abbrev S2x96x230x230 : Shape := ⟨4, ![2, 96, 230, 230]⟩
abbrev S2x96x224x230 : Shape := ⟨4, ![2, 96, 224, 230]⟩
abbrev S1x2x96x224x230 : Shape := ⟨5, ![1, 2, 96, 224, 230]⟩
abbrev S7x2x96x224x230 : Shape := ⟨5, ![7, 2, 96, 224, 230]⟩
abbrev S7x2x96x224x224 : Shape := ⟨5, ![7, 2, 96, 224, 224]⟩
abbrev S7x1x2x96x224x224 : Shape := ⟨6, ![7, 1, 2, 96, 224, 224]⟩
abbrev S7x7x2x96x224x224 : Shape := ⟨6, ![7, 7, 2, 96, 224, 224]⟩
abbrev S8 : Shape := ⟨1, ![8]⟩
abbrev S8x1 : Shape := ⟨2, ![8, 1]⟩
abbrev S2x1 : Shape := ⟨2, ![2, 1]⟩
abbrev S2 : Shape := ⟨1, ![2]⟩
abbrev S1x2 : Shape := ⟨2, ![1, 2]⟩
abbrev S8x2 : Shape := ⟨2, ![8, 2]⟩
abbrev S8x96x7x7 : Shape := ⟨4, ![8, 96, 7, 7]⟩
abbrev S96x8x2x224x224 : Shape := ⟨5, ![96, 8, 2, 224, 224]⟩
abbrev S8x2x224x224x96 : Shape := ⟨5, ![8, 2, 224, 224, 96]⟩
abbrev S8x1x1x1x96 : Shape := ⟨5, ![8, 1, 1, 1, 96]⟩
abbrev S8x2x1x1x1 : Shape := ⟨5, ![8, 2, 1, 1, 1]⟩
abbrev S2x224x224x96 : Shape := ⟨4, ![2, 224, 224, 96]⟩
abbrev S96x7x7 : Shape := ⟨3, ![96, 7, 7]⟩
abbrev S1x96x7x7 : Shape := ⟨4, ![1, 96, 7, 7]⟩
abbrev S1x96 : Shape := ⟨2, ![1, 96]⟩
abbrev S96x1x2x224x224 : Shape := ⟨5, ![96, 1, 2, 224, 224]⟩
abbrev S1x2x224x224x96 : Shape := ⟨5, ![1, 2, 224, 224, 96]⟩
abbrev S1x1x1x1x96 : Shape := ⟨5, ![1, 1, 1, 1, 96]⟩

abbrev nBuf : Space → Nat
  | .hbm => 85
  | .vmem => 0
  | .smem => 0
  | _ => 0

abbrev bufTy : (tb : Table) → Fin (tcTables nBuf tb) → BufTy
  | .hbm, ⟨0, _⟩ => ⟨S2x96x224x224, .f32⟩
  | .hbm, ⟨1, _⟩ => ⟨S2x16, .i32⟩
  | .hbm, ⟨2, _⟩ => ⟨S8x96x1x7x7, .f32⟩
  | .hbm, ⟨3, _⟩ => ⟨S8x96, .f32⟩
  | .hbm, ⟨4, _⟩ => ⟨S96x1x7x7, .f32⟩
  | .hbm, ⟨5, _⟩ => ⟨S96, .f32⟩
  | .hbm, ⟨6, _⟩ => ⟨S_, .i32⟩
  | .hbm, ⟨7, _⟩ => ⟨S_, .f32⟩
  | .hbm, ⟨8, _⟩ => ⟨S2x96x230x230, .f32⟩
  | .hbm, ⟨9, _⟩ => ⟨S2x96x224x230, .f32⟩
  | .hbm, ⟨10, _⟩ => ⟨S2x96x224x230, .f32⟩
  | .hbm, ⟨11, _⟩ => ⟨S2x96x224x230, .f32⟩
  | .hbm, ⟨12, _⟩ => ⟨S2x96x224x230, .f32⟩
  | .hbm, ⟨13, _⟩ => ⟨S2x96x224x230, .f32⟩
  | .hbm, ⟨14, _⟩ => ⟨S2x96x224x230, .f32⟩
  | .hbm, ⟨15, _⟩ => ⟨S2x96x224x230, .f32⟩
  | .hbm, ⟨16, _⟩ => ⟨S1x2x96x224x230, .f32⟩
  | .hbm, ⟨17, _⟩ => ⟨S1x2x96x224x230, .f32⟩
  | .hbm, ⟨18, _⟩ => ⟨S1x2x96x224x230, .f32⟩
  | .hbm, ⟨19, _⟩ => ⟨S1x2x96x224x230, .f32⟩
  | .hbm, ⟨20, _⟩ => ⟨S1x2x96x224x230, .f32⟩
  | .hbm, ⟨21, _⟩ => ⟨S1x2x96x224x230, .f32⟩
  | .hbm, ⟨22, _⟩ => ⟨S1x2x96x224x230, .f32⟩
  | .hbm, ⟨23, _⟩ => ⟨S7x2x96x224x230, .f32⟩
  | .hbm, ⟨24, _⟩ => ⟨S7x2x96x224x224, .f32⟩
  | .hbm, ⟨25, _⟩ => ⟨S7x2x96x224x224, .f32⟩
  | .hbm, ⟨26, _⟩ => ⟨S7x2x96x224x224, .f32⟩
  | .hbm, ⟨27, _⟩ => ⟨S7x2x96x224x224, .f32⟩
  | .hbm, ⟨28, _⟩ => ⟨S7x2x96x224x224, .f32⟩
  | .hbm, ⟨29, _⟩ => ⟨S7x2x96x224x224, .f32⟩
  | .hbm, ⟨30, _⟩ => ⟨S7x2x96x224x224, .f32⟩
  | .hbm, ⟨31, _⟩ => ⟨S7x1x2x96x224x224, .f32⟩
  | .hbm, ⟨32, _⟩ => ⟨S7x1x2x96x224x224, .f32⟩
  | .hbm, ⟨33, _⟩ => ⟨S7x1x2x96x224x224, .f32⟩
  | .hbm, ⟨34, _⟩ => ⟨S7x1x2x96x224x224, .f32⟩
  | .hbm, ⟨35, _⟩ => ⟨S7x1x2x96x224x224, .f32⟩
  | .hbm, ⟨36, _⟩ => ⟨S7x1x2x96x224x224, .f32⟩
  | .hbm, ⟨37, _⟩ => ⟨S7x1x2x96x224x224, .f32⟩
  | .hbm, ⟨38, _⟩ => ⟨S7x7x2x96x224x224, .f32⟩
  | .hbm, ⟨39, _⟩ => ⟨S8, .i32⟩
  | .hbm, ⟨40, _⟩ => ⟨S8x1, .i32⟩
  | .hbm, ⟨41, _⟩ => ⟨S2x1, .i32⟩
  | .hbm, ⟨42, _⟩ => ⟨S2, .i32⟩
  | .hbm, ⟨43, _⟩ => ⟨S1x2, .i32⟩
  | .hbm, ⟨44, _⟩ => ⟨S8x2, .i32⟩
  | .hbm, ⟨45, _⟩ => ⟨S8x2, .i32⟩
  | .hbm, ⟨46, _⟩ => ⟨S8x2, .i1⟩
  | .hbm, ⟨47, _⟩ => ⟨S2x1, .i32⟩
  | .hbm, ⟨48, _⟩ => ⟨S2, .i32⟩
  | .hbm, ⟨49, _⟩ => ⟨S1x2, .i32⟩
  | .hbm, ⟨50, _⟩ => ⟨S8x2, .i32⟩
  | .hbm, ⟨51, _⟩ => ⟨S8x2, .i32⟩
  | .hbm, ⟨52, _⟩ => ⟨S8x2, .i1⟩
  | .hbm, ⟨53, _⟩ => ⟨S8x2, .i1⟩
  | .hbm, ⟨54, _⟩ => ⟨S8x2, .f32⟩
  | .hbm, ⟨55, _⟩ => ⟨S8x96x7x7, .f32⟩
  | .hbm, ⟨56, _⟩ => ⟨S96x8x2x224x224, .f32⟩
  | .hbm, ⟨57, _⟩ => ⟨S8x2x224x224x96, .f32⟩
  | .hbm, ⟨58, _⟩ => ⟨S8x1x1x1x96, .f32⟩
  | .hbm, ⟨59, _⟩ => ⟨S8x2x224x224x96, .f32⟩
  | .hbm, ⟨60, _⟩ => ⟨S8x2x224x224x96, .f32⟩
  | .hbm, ⟨61, _⟩ => ⟨S8x2x1x1x1, .f32⟩
  | .hbm, ⟨62, _⟩ => ⟨S8x2x224x224x96, .f32⟩
  | .hbm, ⟨63, _⟩ => ⟨S8x2x224x224x96, .f32⟩
  | .hbm, ⟨64, _⟩ => ⟨S8x2x224x224x96, .f32⟩
  | .hbm, ⟨65, _⟩ => ⟨S_, .f32⟩
  | .hbm, ⟨66, _⟩ => ⟨S2x224x224x96, .f32⟩
  | .hbm, ⟨67, _⟩ => ⟨S_, .f32⟩
  | .hbm, ⟨68, _⟩ => ⟨S2x224x224x96, .f32⟩
  | .hbm, ⟨69, _⟩ => ⟨S2x224x224x96, .i1⟩
  | .hbm, ⟨70, _⟩ => ⟨S_, .f32⟩
  | .hbm, ⟨71, _⟩ => ⟨S_, .f32⟩
  | .hbm, ⟨72, _⟩ => ⟨S2x224x224x96, .f32⟩
  | .hbm, ⟨73, _⟩ => ⟨S2x224x224x96, .f32⟩
  | .hbm, ⟨74, _⟩ => ⟨S96x7x7, .f32⟩
  | .hbm, ⟨75, _⟩ => ⟨S1x96x7x7, .f32⟩
  | .hbm, ⟨76, _⟩ => ⟨S1x96, .f32⟩
  | .hbm, ⟨77, _⟩ => ⟨S96x1x2x224x224, .f32⟩
  | .hbm, ⟨78, _⟩ => ⟨S1x2x224x224x96, .f32⟩
  | .hbm, ⟨79, _⟩ => ⟨S1x1x1x1x96, .f32⟩
  | .hbm, ⟨80, _⟩ => ⟨S1x2x224x224x96, .f32⟩
  | .hbm, ⟨81, _⟩ => ⟨S1x2x224x224x96, .f32⟩
  | .hbm, ⟨82, _⟩ => ⟨S2x224x224x96, .f32⟩
  | .hbm, ⟨83, _⟩ => ⟨S2x224x224x96, .f32⟩
  | .hbm, ⟨84, _⟩ => ⟨S2x224x224x96, .f32⟩
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_cst : Ref sig .tc := ⟨.hbm, 65, rfl⟩
abbrev main_v57 : Ref sig .tc := ⟨.hbm, 66, rfl⟩
abbrev main_cst_0 : Ref sig .tc := ⟨.hbm, 67, rfl⟩
abbrev main_v58 : Ref sig .tc := ⟨.hbm, 68, rfl⟩
abbrev main_v59 : Ref sig .tc := ⟨.hbm, 69, rfl⟩
abbrev main_cst_1 : Ref sig .tc := ⟨.hbm, 70, rfl⟩
abbrev main_call1_v0 : Ref sig .tc := ⟨.hbm, 71, rfl⟩
abbrev main_call1_v1 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩

abbrev nD : Nat := 1
abbrev τ : Topo := Topo.v7x

variable {F : FTy → Type} [FloatOps F]
-- ==== Router.lean ====
abbrev S2x96x224x224 : Shape := ⟨4, ![2, 96, 224, 224]⟩
abbrev S1x96x7x7 : Shape := ⟨4, ![1, 96, 7, 7]⟩
abbrev S1 : Shape := ⟨1, ![1]⟩
abbrev S50176x8 : Shape := ⟨2, ![50176, 8]⟩
abbrev S2x224x224x96 : Shape := ⟨4, ![2, 224, 224, 96]⟩
abbrev S_ : Shape := ⟨0, ![]⟩
abbrev S2x230x230x96 : Shape := ⟨4, ![2, 230, 230, 96]⟩
abbrev S96x7x7 : Shape := ⟨3, ![96, 7, 7]⟩
abbrev S7x7x96 : Shape := ⟨3, ![7, 7, 96]⟩
abbrev S7x7168x8 : Shape := ⟨3, ![7, 7168, 8]⟩
abbrev S1x1 : Shape := ⟨2, ![1, 1]⟩
abbrev S2x16 : Shape := ⟨2, ![2, 16]⟩
abbrev S1x38x230x96 : Shape := ⟨4, ![1, 38, 230, 96]⟩
abbrev S1x7168x8 : Shape := ⟨3, ![1, 7168, 8]⟩
abbrev S38x224x96 : Shape := ⟨3, ![38, 224, 96]⟩
abbrev S32x224x96 : Shape := ⟨3, ![32, 224, 96]⟩
abbrev S1x38x224x96 : Shape := ⟨4, ![1, 38, 224, 96]⟩
abbrev S1x7x96 : Shape := ⟨3, ![1, 7, 96]⟩
abbrev S7x96 : Shape := ⟨2, ![7, 96]⟩
abbrev S14x8x96 : Shape := ⟨3, ![14, 8, 96]⟩
abbrev S8x8x96 : Shape := ⟨3, ![8, 8, 96]⟩
abbrev S1x96 : Shape := ⟨2, ![1, 96]⟩
abbrev S96 : Shape := ⟨1, ![96]⟩
abbrev S1x1x96 : Shape := ⟨3, ![1, 1, 96]⟩
abbrev S7168x96 : Shape := ⟨2, ![7168, 96]⟩
abbrev S7168x8 : Shape := ⟨2, ![7168, 8]⟩
abbrev S96x8 : Shape := ⟨2, ![96, 8]⟩
abbrev S8 : Shape := ⟨1, ![8]⟩
abbrev S1x8 : Shape := ⟨2, ![1, 8]⟩
abbrev S1x16 : Shape := ⟨2, ![1, 16]⟩
abbrev S2 : Shape := ⟨1, ![2]⟩
abbrev S2x1 : Shape := ⟨2, ![2, 1]⟩
abbrev S16 : Shape := ⟨1, ![16]⟩

abbrev nBuf : Space → Nat
  | .hbm => 14
  | .vmem => 10
  | .smem => 1
  | _ => 0

abbrev bufTy : (tb : Table) → Fin (tcTables nBuf tb) → BufTy
  | .hbm, ⟨0, _⟩ => ⟨S2x96x224x224, .f32⟩
  | .hbm, ⟨1, _⟩ => ⟨S1x96x7x7, .f32⟩
  | .hbm, ⟨2, _⟩ => ⟨S1, .f32⟩
  | .hbm, ⟨3, _⟩ => ⟨S50176x8, .f32⟩
  | .hbm, ⟨4, _⟩ => ⟨S2x224x224x96, .f32⟩
  | .hbm, ⟨5, _⟩ => ⟨S_, .i32⟩
  | .hbm, ⟨6, _⟩ => ⟨S_, .f32⟩
  | .hbm, ⟨7, _⟩ => ⟨S2x230x230x96, .f32⟩
  | .hbm, ⟨8, _⟩ => ⟨S96x7x7, .f32⟩
  | .hbm, ⟨9, _⟩ => ⟨S7x7x96, .f32⟩
  | .hbm, ⟨10, _⟩ => ⟨S7x7168x8, .f32⟩
  | .hbm, ⟨11, _⟩ => ⟨S1x1, .f32⟩
  | .hbm, ⟨12, _⟩ => ⟨S2x16, .i32⟩
  | .hbm, ⟨13, _⟩ => ⟨S1x1, .f32⟩
  | .local _ .vmem, ⟨0, _⟩ => ⟨S1x38x230x96, .f32⟩
  | .local _ .vmem, ⟨1, _⟩ => ⟨S1x38x230x96, .f32⟩
  | .local _ .vmem, ⟨2, _⟩ => ⟨S7x7x96, .f32⟩
  | .local _ .vmem, ⟨3, _⟩ => ⟨S1x7168x8, .f32⟩
  | .local _ .vmem, ⟨4, _⟩ => ⟨S1x7168x8, .f32⟩
  | .local _ .vmem, ⟨5, _⟩ => ⟨S2x16, .i32⟩
  | .local _ .vmem, ⟨6, _⟩ => ⟨S1x1, .f32⟩
  | .local _ .vmem, ⟨7, _⟩ => ⟨S2x16, .f32⟩
  | .local _ .vmem, ⟨8, _⟩ => ⟨S38x224x96, .f32⟩
  | .local _ .vmem, ⟨9, _⟩ => ⟨S32x224x96, .f32⟩
  | .local _ .smem, ⟨0, _⟩ => ⟨S1x1, .f32⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![2, 7], ![false, false]⟩

@[reducible] def k0_t1_loop : Scf.Loop 32 :=
  let c0_i32 : BitVec 32 := 0#32
  let c7_i32 : BitVec 32 := 7#32
  let v4 : BitVec 32 := Scalar.addi c0_i32 c7_i32
  let c1_i32 : BitVec 32 := 1#32
  ⟨c0_i32, v4, c1_i32⟩
def k0_off1 (k0_t1 : Fin k0_t1_loop.trips) : Fin 4 → Nat :=
  let c0_25 : Index := 0#32
  let c0_26 : Index := 0#32
  let c0_i32 : BitVec 32 := 0#32
  let c1_i32 : BitVec 32 := 1#32
  let arg11 : BitVec 32 := Scf.iv c0_i32 c1_i32 k0_t1
  let v42 : Index := Scalar.indexCast arg11
  let c0_27 : Index := 0#32
  ![0, 0, v42.toNat, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v48 : Index := Scalar.indexCast arg11
  let c0_31 : Index := 0#32
  let c0_32 : Index := 0#32
  ![v48.toNat, 0, 0]
@[reducible] def k0_t2_loop : Scf.Loop 32 :=
  let c0_i32_33 : BitVec 32 := 0#32
  let c28_i32 : BitVec 32 := 28#32
  let v51 : BitVec 32 := Scalar.addi c0_i32_33 c28_i32
  let c1_i32_34 : BitVec 32 := 1#32
  ⟨c0_i32_33, v51, c1_i32_34⟩
def k0_mult1 (k0_t2 : Fin k0_t2_loop.trips) : BitVec 32 :=
  let c0_i32_33 : BitVec 32 := 0#32
  let c1_i32_34 : BitVec 32 := 1#32
  let arg12 : BitVec 32 := Scf.iv c0_i32_33 c1_i32_34 k0_t2
  let c8_i32 : BitVec 32 := 8#32
  let v52 : BitVec 32 := Scalar.muli arg12 c8_i32
  v52
def k0_mult2 : BitVec 32 :=
  let c0_i32_36 : BitVec 32 := 0#32
  let c8_i32_37 : BitVec 32 := 8#32
  let v54 : BitVec 32 := Scalar.muli c0_i32_36 c8_i32_37
  v54
def k0_off3 (k0_t2 : Fin k0_t2_loop.trips) (c0_i32_36 : BitVec 32) : Fin 3 → Nat :=
  let c8_i32_37 : BitVec 32 := 8#32
  let v54 : BitVec 32 := Scalar.muli c0_i32_36 c8_i32_37
  let v55 : BitVec 32 := v54
  let v56 : Index := Scalar.indexCast v55
  let c0_i32_33 : BitVec 32 := 0#32
  let c1_i32_34 : BitVec 32 := 1#32
  let arg12 : BitVec 32 := Scf.iv c0_i32_33 c1_i32_34 k0_t2
  let c8_i32 : BitVec 32 := 8#32
  let v52 : BitVec 32 := Scalar.muli arg12 c8_i32
  let v53 : BitVec 32 := v52
  let v57 : Index := Scalar.indexCast v53
  let c0_38 : Index := 0#32
  ![v56.toNat, v57.toNat, 0]
def k0_off4 (k0_t2 : Fin k0_t2_loop.trips) (c0_i32_36 : BitVec 32) : Fin 3 → Nat :=
  let c8_i32_37 : BitVec 32 := 8#32
  let v54 : BitVec 32 := Scalar.muli c0_i32_36 c8_i32_37
  let v55 : BitVec 32 := v54
  let v59 : Index := Scalar.indexCast v55
  let c0_i32_33 : BitVec 32 := 0#32
  let c1_i32_34 : BitVec 32 := 1#32
  let arg12 : BitVec 32 := Scf.iv c0_i32_33 c1_i32_34 k0_t2
  let c8_i32 : BitVec 32 := 8#32
  let v52 : BitVec 32 := Scalar.muli arg12 c8_i32
  let v53 : BitVec 32 := v52
  let v60 : Index := Scalar.indexCast v53
  let c0_39 : Index := 0#32
  ![v59.toNat, v60.toNat, 0]
def k0_mult3 : BitVec 32 :=
  let c1_i32_41 : BitVec 32 := 1#32
  let c8_i32_42 : BitVec 32 := 8#32
  let v116 : BitVec 32 := Scalar.muli c1_i32_41 c8_i32_42
  v116
def k0_mult4 : BitVec 32 :=
  let c2_i32 : BitVec 32 := 2#32
  let c8_i32_46 : BitVec 32 := 8#32
  let v178 : BitVec 32 := Scalar.muli c2_i32 c8_i32_46
  v178
def k0_mult5 : BitVec 32 :=
  let c3_i32 : BitVec 32 := 3#32
  let c8_i32_50 : BitVec 32 := 8#32
  let v240 : BitVec 32 := Scalar.muli c3_i32 c8_i32_50
  v240
def k0_cond2 (i : grid0.Coords) : BitVec 1 :=
  let arg0 : BitVec 32 := BitVec.ofNat 32 (i 0).val
  let c1_i32_23 : BitVec 32 := 1#32
  let v37 : BitVec 1 := Scalar.cmpi .eq arg0 c1_i32_23
  let arg1 : BitVec 32 := BitVec.ofNat 32 (i 1).val
  let c6_i32 : BitVec 32 := 6#32
  let v38 : BitVec 1 := Scalar.cmpi .eq arg1 c6_i32
  let v39 : BitVec 1 := Scalar.andi v37 v38
  let v40 : BitVec 32 := Scalar.extui v39
  let c0_i32_24 : BitVec 32 := 0#32
  let v41 : BitVec 1 := Scalar.cmpi .ne v40 c0_i32_24
  v41

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c0_i32 : BitVec 32 := 0#32
  let c0_i32_0 : BitVec 32 := 0#32
  let c0_i32_1 : BitVec 32 := 0#32
  ![arg0.toNat, v0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x38x230x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S7x7x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x7168x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== RouterIdeal.lean ====
variable {F : FTy → Type} [FloatOps F] [Named F]
def κ : String → Option EReal := fun
  | "mask" => some ⊥
  | _ => none
-- ==== RouterReferenceIdeal.lean ====
abbrev S2x96x224x224 : Shape := ⟨4, ![2, 96, 224, 224]⟩
abbrev S1x96x7x7 : Shape := ⟨4, ![1, 96, 7, 7]⟩
abbrev S1 : Shape := ⟨1, ![1]⟩
abbrev S50176x8 : Shape := ⟨2, ![50176, 8]⟩
abbrev S_ : Shape := ⟨0, ![]⟩
abbrev S2x96x230x230 : Shape := ⟨4, ![2, 96, 230, 230]⟩
abbrev S2x96x224x230 : Shape := ⟨4, ![2, 96, 224, 230]⟩
abbrev S1x2x96x224x230 : Shape := ⟨5, ![1, 2, 96, 224, 230]⟩
abbrev S7x2x96x224x230 : Shape := ⟨5, ![7, 2, 96, 224, 230]⟩
abbrev S7x2x96x224x224 : Shape := ⟨5, ![7, 2, 96, 224, 224]⟩
abbrev S7x1x2x96x224x224 : Shape := ⟨6, ![7, 1, 2, 96, 224, 224]⟩
abbrev S7x7x2x96x224x224 : Shape := ⟨6, ![7, 7, 2, 96, 224, 224]⟩
abbrev S96x7x7 : Shape := ⟨3, ![96, 7, 7]⟩
abbrev S2x224x224 : Shape := ⟨3, ![2, 224, 224]⟩
abbrev S2x50176 : Shape := ⟨2, ![2, 50176]⟩
abbrev S2x8 : Shape := ⟨2, ![2, 8]⟩
abbrev S2x2 : Shape := ⟨2, ![2, 2]⟩
abbrev S2 : Shape := ⟨1, ![2]⟩
abbrev S2x1 : Shape := ⟨2, ![2, 1]⟩
abbrev S2x2x1 : Shape := ⟨3, ![2, 2, 1]⟩
abbrev S8 : Shape := ⟨1, ![8]⟩
abbrev S1x1x8 : Shape := ⟨3, ![1, 1, 8]⟩
abbrev S2x2x8 : Shape := ⟨3, ![2, 2, 8]⟩
abbrev S2x16 : Shape := ⟨2, ![2, 16]⟩
abbrev S1x1 : Shape := ⟨2, ![1, 1]⟩

abbrev nBuf : Space → Nat
  | .hbm => 147
  | .vmem => 0
  | .smem => 0
  | _ => 0

abbrev hbmTy0_0 (i : Nat) : BufTy := match i % 128 with
  | 0 => ⟨S2x96x224x224, .f32⟩
  | 1 => ⟨S1x96x7x7, .f32⟩
  | 2 => ⟨S1, .f32⟩
  | 3 => ⟨S50176x8, .f32⟩
  | 4 => ⟨S_, .i32⟩
  | 5 => ⟨S_, .f32⟩
  | 6 => ⟨S2x96x230x230, .f32⟩
  | 7 => ⟨S2x96x224x230, .f32⟩
  | 8 => ⟨S2x96x224x230, .f32⟩
  | 9 => ⟨S2x96x224x230, .f32⟩
  | 10 => ⟨S2x96x224x230, .f32⟩
  | 11 => ⟨S2x96x224x230, .f32⟩
  | 12 => ⟨S2x96x224x230, .f32⟩
  | 13 => ⟨S2x96x224x230, .f32⟩
  | 14 => ⟨S1x2x96x224x230, .f32⟩
  | 15 => ⟨S1x2x96x224x230, .f32⟩
  | 16 => ⟨S1x2x96x224x230, .f32⟩
  | 17 => ⟨S1x2x96x224x230, .f32⟩
  | 18 => ⟨S1x2x96x224x230, .f32⟩
  | 19 => ⟨S1x2x96x224x230, .f32⟩
  | 20 => ⟨S1x2x96x224x230, .f32⟩
  | 21 => ⟨S7x2x96x224x230, .f32⟩
  | 22 => ⟨S7x2x96x224x224, .f32⟩
  | 23 => ⟨S7x2x96x224x224, .f32⟩
  | 24 => ⟨S7x2x96x224x224, .f32⟩
  | 25 => ⟨S7x2x96x224x224, .f32⟩
  | 26 => ⟨S7x2x96x224x224, .f32⟩
  | 27 => ⟨S7x2x96x224x224, .f32⟩
  | 28 => ⟨S7x2x96x224x224, .f32⟩
  | 29 => ⟨S7x1x2x96x224x224, .f32⟩
  | 30 => ⟨S7x1x2x96x224x224, .f32⟩
  | 31 => ⟨S7x1x2x96x224x224, .f32⟩
  | 32 => ⟨S7x1x2x96x224x224, .f32⟩
  | 33 => ⟨S7x1x2x96x224x224, .f32⟩
  | 34 => ⟨S7x1x2x96x224x224, .f32⟩
  | 35 => ⟨S7x1x2x96x224x224, .f32⟩
  | 36 => ⟨S7x7x2x96x224x224, .f32⟩
  | 37 => ⟨S96x7x7, .f32⟩
  | 38 => ⟨S2x224x224, .f32⟩
  | 39 => ⟨S_, .f32⟩
  | 40 => ⟨S2x224x224, .f32⟩
  | 41 => ⟨S2x224x224, .f32⟩
  | 42 => ⟨S2x50176, .f32⟩
  | 43 => ⟨S2x8, .f32⟩
  | 44 => ⟨S2x2, .f32⟩
  | 45 => ⟨S2x2, .i32⟩
  | 46 => ⟨S_, .f32⟩
  | 47 => ⟨S2, .f32⟩
  | 48 => ⟨S_, .f32⟩
  | 49 => ⟨S2, .f32⟩
  | 50 => ⟨S2, .f32⟩
  | 51 => ⟨S2x1, .f32⟩
  | 52 => ⟨S2x2, .f32⟩
  | 53 => ⟨S2x2, .f32⟩
  | 54 => ⟨S2x2, .f32⟩
  | 55 => ⟨S_, .f32⟩
  | 56 => ⟨S2, .f32⟩
  | 57 => ⟨S2x1, .f32⟩
  | 58 => ⟨S2x2, .f32⟩
  | 59 => ⟨S2x2, .f32⟩
  | 60 => ⟨S2x2x1, .i32⟩
  | 61 => ⟨S8, .i32⟩
  | 62 => ⟨S1x1x8, .i32⟩
  | 63 => ⟨S2x2x8, .i32⟩
  | 64 => ⟨S2x2x8, .i32⟩
  | 65 => ⟨S2x2x8, .i1⟩
  | 66 => ⟨S2x2x1, .f32⟩
  | 67 => ⟨S_, .f32⟩
  | 68 => ⟨S_, .f32⟩
  | 69 => ⟨S2x2x8, .f32⟩
  | 70 => ⟨S2x2x8, .f32⟩
  | 71 => ⟨S2x2x8, .f32⟩
  | 72 => ⟨S_, .f32⟩
  | 73 => ⟨S2x8, .f32⟩
  | 74 => ⟨S_, .f32⟩
  | 75 => ⟨S8, .f32⟩
  | 76 => ⟨S_, .f32⟩
  | 77 => ⟨S2x8, .f32⟩
  | 78 => ⟨S2x8, .i1⟩
  | 79 => ⟨S2x8, .f32⟩
  | 80 => ⟨S_, .f32⟩
  | 81 => ⟨S8, .f32⟩
  | 82 => ⟨S_, .i32⟩
  | 83 => ⟨S_, .f32⟩
  | 84 => ⟨S_, .f32⟩
  | 85 => ⟨S1, .f32⟩
  | 86 => ⟨S_, .f32⟩
  | 87 => ⟨S1, .f32⟩
  | 88 => ⟨S1, .f32⟩
  | 89 => ⟨S8, .f32⟩
  | 90 => ⟨S8, .f32⟩
  | 91 => ⟨S8, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .i1⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .i32⟩
  | 112 => ⟨S_, .f32⟩
  | 113 => ⟨S_, .f32⟩
  | 114 => ⟨S1, .f32⟩
  | 115 => ⟨S_, .f32⟩
  | 116 => ⟨S1, .f32⟩
  | 117 => ⟨S1, .f32⟩
  | 118 => ⟨S8, .f32⟩
  | 119 => ⟨S8, .f32⟩
  | 120 => ⟨S8, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S2x96x224x224, .f32⟩

abbrev hbmTy0_1 (i : Nat) : BufTy := match i % 128 with
  | 0 => ⟨S_, .i1⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .i32⟩
  | 16 => ⟨S_, .i32⟩
  | 17 => ⟨S2x16, .i32⟩
  | 18 => ⟨S1x1, .f32⟩
  | _ => ⟨S2x96x224x224, .f32⟩

abbrev hbmTy (i : Nat) : BufTy := match i / 128 with
  | 0 => hbmTy0_0 i
  | 1 => hbmTy0_1 i
  | _ => ⟨S2x96x224x224, .f32⟩

abbrev bufTy : (tb : Table) → Fin (tcTables nBuf tb) → BufTy
  | .hbm, ⟨i, _⟩ => hbmTy i
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_values : Ref sig .tc := ⟨.hbm, 44, rfl⟩
abbrev main_indices : Ref sig .tc := ⟨.hbm, 45, rfl⟩
abbrev main_cst : Ref sig .tc := ⟨.hbm, 46, rfl⟩
abbrev main_v38 : Ref sig .tc := ⟨.hbm, 47, rfl⟩
abbrev main_cst_0 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_1 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_2 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v56 : Ref sig .tc := ⟨.hbm, 71, rfl⟩
abbrev main_cst_3 : Ref sig .tc := ⟨.hbm, 72, rfl⟩
abbrev main_v57 : Ref sig .tc := ⟨.hbm, 73, rfl⟩
abbrev main_cst_4 : Ref sig .tc := ⟨.hbm, 74, rfl⟩
abbrev main_v58 : Ref sig .tc := ⟨.hbm, 75, rfl⟩
abbrev main_cst_5 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_6 : Ref sig .tc := ⟨.hbm, 80, rfl⟩
abbrev main_v62 : Ref sig .tc := ⟨.hbm, 81, rfl⟩
abbrev main_c_7 : Ref sig .tc := ⟨.hbm, 82, rfl⟩
abbrev main_call2_cst : Ref sig .tc := ⟨.hbm, 83, rfl⟩
abbrev main_call2_v0 : Ref sig .tc := ⟨.hbm, 84, rfl⟩
abbrev main_call2_v1 : Ref sig .tc := ⟨.hbm, 85, rfl⟩
abbrev main_call2_cst_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_cst_1 : Ref sig .tc := ⟨.hbm, 93, rfl⟩
abbrev main_call2_v8 : Ref sig .tc := ⟨.hbm, 94, rfl⟩
abbrev main_call2_cst_2 : Ref sig .tc := ⟨.hbm, 95, rfl⟩
abbrev main_call2_v9 : Ref sig .tc := ⟨.hbm, 96, rfl⟩
abbrev main_call2_v10 : Ref sig .tc := ⟨.hbm, 97, rfl⟩
abbrev main_call2_cst_3 : Ref sig .tc := ⟨.hbm, 98, rfl⟩
abbrev main_call2_v11 : Ref sig .tc := ⟨.hbm, 99, rfl⟩
abbrev main_call2_cst_4 : Ref sig .tc := ⟨.hbm, 100, rfl⟩
abbrev main_call2_call0_v0 : Ref sig .tc := ⟨.hbm, 101, rfl⟩
abbrev main_v63 : Ref sig .tc := ⟨.hbm, 102, rfl⟩
abbrev main_cst_8 : Ref sig .tc := ⟨.hbm, 103, rfl⟩
abbrev main_v64 : Ref sig .tc := ⟨.hbm, 104, rfl⟩
abbrev main_cst_9 : Ref sig .tc := ⟨.hbm, 105, rfl⟩
abbrev main_v65 : Ref sig .tc := ⟨.hbm, 106, rfl⟩
abbrev main_v66 : Ref sig .tc := ⟨.hbm, 107, rfl⟩
abbrev main_cst_10 : Ref sig .tc := ⟨.hbm, 108, rfl⟩
abbrev main_v67 : Ref sig .tc := ⟨.hbm, 109, rfl⟩
abbrev main_v68 : Ref sig .tc := ⟨.hbm, 110, rfl⟩
abbrev main_c_11 : Ref sig .tc := ⟨.hbm, 111, rfl⟩
abbrev main_call3_cst : Ref sig .tc := ⟨.hbm, 112, rfl⟩
abbrev main_call3_v0 : Ref sig .tc := ⟨.hbm, 113, rfl⟩
abbrev main_call3_v1 : Ref sig .tc := ⟨.hbm, 114, rfl⟩
abbrev main_call3_cst_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_v6 : Ref sig .tc := ⟨.hbm, 120, rfl⟩
abbrev main_call3_v7 : Ref sig .tc := ⟨.hbm, 121, rfl⟩
abbrev main_call3_cst_1 : Ref sig .tc := ⟨.hbm, 122, rfl⟩
abbrev main_call3_v8 : Ref sig .tc := ⟨.hbm, 123, rfl⟩
abbrev main_call3_cst_2 : Ref sig .tc := ⟨.hbm, 124, rfl⟩
abbrev main_call3_v9 : Ref sig .tc := ⟨.hbm, 125, rfl⟩
abbrev main_call3_v10 : Ref sig .tc := ⟨.hbm, 126, rfl⟩
abbrev main_call3_cst_3 : Ref sig .tc := ⟨.hbm, 127, rfl⟩
abbrev main_call3_v11 : Ref sig .tc := ⟨.hbm, 128, rfl⟩
abbrev main_call3_cst_4 : Ref sig .tc := ⟨.hbm, 129, rfl⟩
abbrev main_call3_call0_v0 : Ref sig .tc := ⟨.hbm, 130, rfl⟩
abbrev main_v69 : Ref sig .tc := ⟨.hbm, 131, rfl⟩
abbrev main_cst_12 : Ref sig .tc := ⟨.hbm, 132, rfl⟩
abbrev main_v70 : Ref sig .tc := ⟨.hbm, 133, rfl⟩
abbrev main_cst_13 : Ref sig .tc := ⟨.hbm, 134, rfl⟩
abbrev main_v71 : Ref sig .tc := ⟨.hbm, 135, rfl⟩
abbrev main_v72 : Ref sig .tc := ⟨.hbm, 136, rfl⟩
abbrev main_cst_14 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_cst_15 : Ref sig .tc := ⟨.hbm, 141, rfl⟩
abbrev main_v76 : Ref sig .tc := ⟨.hbm, 142, rfl⟩
abbrev main_c_16 : Ref sig .tc := ⟨.hbm, 143, rfl⟩
abbrev main_call4_v0 : Ref sig .tc := ⟨.hbm, 144, rfl⟩
abbrev main_v77 : Ref sig .tc := ⟨.hbm, 145, rfl⟩
abbrev main_v78 : Ref sig .tc := ⟨.hbm, 146, rfl⟩

abbrev nD : Nat := 1
abbrev τ : Topo := Topo.v7x

variable {F : FTy → Type} [FloatOps F]
-- ==== Proof.Chosen.lean ====
module

public import proofs.«01_k».proof.Pre_chosen
public import proofs.«01_k».proof.Proof.Gen.Pre_chosen
public import Idealize.ShloMosaic.Lib.Pointwise
public import Idealize.ShloMosaic.Lib.ReduceAll
public import Idealize.ShloMosaic.Lib.WordCmp

@[expose] public section

set_option maxRecDepth 16384

noncomputable section

namespace Cert.Proof.Ch

open Cert.Pre_chosen Idealize.ShloMosaic

local instance : Cert.Pre_chosen.Facts := Cert.Pre_chosen.Gen.facts

variable {F : FTy → Type} [FloatOps F]

/-- What the precondition says of each batch row: its first two indices are below eight and differ. -/
theorem decoded (x : FVec F S2x96x224x224 .f32) (w : IVec S2x16 32) (ew : FVec F S8x96x1x7x7 .f32) (eb : FVec F S8x96 .f32)
    (sw : FVec F S96x1x7x7 .f32) (sb : FVec F S96 .f32)
    (h : Cert.Pre_chosen.fn x w ew eb sw sb = fun _ => 1#1) (b : Fin 2) :
    (w (ix2 b 0)).toNat < 8 ∧ (w (ix2 b 1)).toNat < 8 ∧ w (ix2 b 0) ≠ w (ix2 b 1) := by
  have e := Host.reduce_andi_all _ _ _ _ _ (congrFun h ix0) (ix1 b)
  pointwise at e
  rw [IntOp.andi_eq_one, IntOp.andi_eq_one, IntOp.andi_eq_one] at e
  obtain ⟨⟨⟨p, q₀⟩, q₁⟩, hne⟩ := e
  refine ⟨?_, ?_, ?_⟩
  · revert p
    word_cmp
  · have q := (IntOp.andi_eq_one (c := IntOp.cmpi .sge (w (ix2 b 1)) 0#32) (d := IntOp.cmpi .slt (w (ix2 b 1)) 8#32)).2 ⟨q₀, q₁⟩
    revert q
    word_cmp
  · intro heq
    rw [heq] at hne
    revert hne
    word_cmp

end Cert.Proof.Ch

end
-- ==== Proof.ExpertInner.lean ====
/-
  One trip of the expert kernel's inner loop: the loop walks the 224 columns in chunks of eight; a chunk is four blocks
  of eight rows, and on each block each of the three accumulators takes seven multiply-adds (the seven rows of the
  filter at the column offset the outer loop is at). The trip is run once at a symbolic chunk; what it leaves is
  read index by index.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit
public import Idealize.ShloMosaic.Lib.Pointwise
public import Idealize.ShloMosaic.Lib.WritesUnit
public import Idealize.ShloMosaic.Lib.VecWindow

@[expose] public section

set_option maxRecDepth 16384

noncomputable section

namespace Cert.Proof.Ex

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- No kernel variants. -/
abbrev 𝒱₀ : Variants := Variants.none

/-- Seven multiply-adds in the order the kernel takes them. -/
def fma7 (s w : Fin 7 → F .f32) (a : F .f32) : F .f32 :=
  (FloatOps.addf (FloatOps.addf (FloatOps.addf (FloatOps.addf (FloatOps.addf (FloatOps.addf (FloatOps.addf a (FloatOps.mulf (s 0) (w 0))) (FloatOps.mulf (s 1) (w 1))) (FloatOps.mulf (s 2) (w 2))) (FloatOps.mulf (s 3) (w 3))) (FloatOps.mulf (s 4) (w 4))) (FloatOps.mulf (s 5) (w 5))) (FloatOps.mulf (s 6) (w 6)))

/-- One row of the window times one row of the filter, the row spread over the block. -/
abbrev prod (o : Fin 3 → Nat) (ho : S14x8x96.Slices o S8x8x96) (q : Fin 2 → Nat) (hq : S7x96.Slices q S1x96)
    (v : FVec F S14x8x96 .f32) (w : FVec F S7x96 .f32) : FVec F S8x8x96 .f32 :=
  mulf (extractStridedSlice S8x8x96 o v ho) (broadcastTo S8x8x96 (shapeCast S1x1x96
    (shapeCast S96 (extractStridedSlice S1x96 q w hq) shapeCasts_S1x96_S96) shapeCasts_S96_S1x1x96) broadcasts_S1x1x96_S8x8x96)

/-- What one block of an accumulator is replaced by: the seven products added to it one after another. -/
def chunk (w : FVec F S7x96 .f32) (v : FVec F S14x8x96 .f32) (a : FVec F S8x8x96 .f32) : FVec F S8x8x96 .f32 :=
  shapeCast S8x8x96 (addf (addf (addf (addf (addf (addf (addf a (prod ![0, 0, 0] slices_S14x8x96_o0_0_0_S8x8x96 ![0, 0] slices_S7x96_o0_0_S1x96 v w)) (prod ![1, 0, 0] slices_S14x8x96_o1_0_0_S8x8x96 ![1, 0] slices_S7x96_o1_0_S1x96 v w)) (prod ![2, 0, 0] slices_S14x8x96_o2_0_0_S8x8x96 ![2, 0] slices_S7x96_o2_0_S1x96 v w)) (prod ![3, 0, 0] slices_S14x8x96_o3_0_0_S8x8x96 ![3, 0] slices_S7x96_o3_0_S1x96 v w)) (prod ![4, 0, 0] slices_S14x8x96_o4_0_0_S8x8x96 ![4, 0] slices_S7x96_o4_0_S1x96 v w)) (prod ![5, 0, 0] slices_S14x8x96_o5_0_0_S8x8x96 ![5, 0] slices_S7x96_o5_0_S1x96 v w)) (prod ![6, 0, 0] slices_S14x8x96_o6_0_0_S8x8x96 ![6, 0] slices_S7x96_o6_0_S1x96 v w)) shapeCasts_S8x8x96_S8x8x96

theorem chunk_apply (w : FVec F S7x96 .f32) (v : FVec F S14x8x96 .f32) (a : FVec F S8x8x96 .f32) (r s : Fin 8) (c : Fin 96) :
    chunk w v a (ix3 r s c) = fma7 (fun i : Fin 7 => v (ix3 (⟨i.val + r.val, by omega⟩ : Fin 14) s c)) (fun i => w (ix2 i c)) (a (ix3 r s c)) := by
  pointwise [chunk, prod, fma7]

/-- Where a block sits: rows `8·rc`, columns `8·k`. -/
theorem off8_eq : ∀ k : Fin k0_t2_loop.trips, ∀ rc : Fin 4, k0_off8 k (BitVec.ofNat 32 rc.val) = ![8 * rc.val, 8 * k.val, 0] := by
  decide +kernel
theorem off7_eq : ∀ k : Fin k0_t2_loop.trips, ∀ rc : Fin 4, k0_off7 k (BitVec.ofNat 32 rc.val) = ![8 * rc.val, 8 * k.val, 0] := by
  decide +kernel

section Step

variable (arg9 : Memref sig .tc .vmem S38x224x96 .f32) (M : Memref sig .tc .vmem S32x224x96 .f32) (w : FVec F S7x96 .f32)
  (X9 : BufTy.Contents (Elt F) arg9.view.ty)

/-- The block `rc` of chunk `k` an accumulator holding `f` has replaced. -/
def piece (k : Fin k0_t2_loop.trips) (rc : Fin 4) (f : BufTy.Contents (Elt F) M.view.ty) : View.Piece (Elt F) S32x224x96 .f32 :=
  ⟨Rect.unit (s := S32x224x96) (k0_off8 k (BitVec.ofNat 32 rc.val)) S8x8x96.size (k0_off8_inb k rc),
    chunk w (arg9.view.readAt (Elt F) (Rect.unit (s := S38x224x96) (k0_off7 k (BitVec.ofNat 32 rc.val)) S14x8x96.size (k0_off7_inb k rc)).toLoadRect X9)
      (M.view.readAt (Elt F) (Rect.unit (s := S32x224x96) (k0_off8 k (BitVec.ofNat 32 rc.val)) S8x8x96.size (k0_off8_inb k rc)).toLoadRect f)⟩

/-- One accumulator after the four blocks of chunk `k` have been replaced. -/
def tripTo (k : Fin k0_t2_loop.trips) (f : BufTy.Contents (Elt F) M.view.ty) : BufTy.Contents (Elt F) M.view.ty :=
  M.view.writes (Elt F) f [piece arg9 M w X9 k 3 f, piece arg9 M w X9 k 2 f, piece arg9 M w X9 k 1 f, piece arg9 M w X9 k 0 f]

/-- The seven multiply-adds at one index of the accumulator, from the slab `S`. -/
def rowAcc (S : FVec F S38x224x96 .f32) (a : F .f32) (r : Fin 32) (s : Fin 224) (c : Fin 96) : F .f32 :=
  fma7 (fun i : Fin 7 => S (ix3 (⟨i.val + r.val, by omega⟩ : Fin 38) s c)) (fun i => w (ix2 i c)) a

theorem read_piece (k : Fin k0_t2_loop.trips) (rc : Fin 4) (f : BufTy.Contents (Elt F) M.view.ty) (L : List (View.Piece (Elt F) S32x224x96 .f32))
    (r : Fin 32) (s : Fin 224) (c : Fin 96) :
    M.view.read (Elt F) (M.view.writes (Elt F) f (piece arg9 M w X9 k rc f :: L)) (ix3 r s c)
      = if (8 * rc.val ≤ r.val ∧ r.val < 8 * rc.val + 8) ∧ (8 * k.val ≤ s.val ∧ s.val < 8 * k.val + 8)
        then rowAcc w (arg9.view.read (Elt F) X9) (M.view.read (Elt F) f (ix3 r s c)) r s c
        else M.view.read (Elt F) (M.view.writes (Elt F) f L) (ix3 r s c) := by
  unfold piece
  have hk : k.val < 28 := Nat.lt_of_lt_of_le k.isLt k0_t2_abs.2.1
  split_ifs with h
  · obtain ⟨⟨h1, h2⟩, h3, h4⟩ := h
    have hr : r.val - 8 * rc.val < 8 := by omega
    have hs : s.val - 8 * k.val < 8 := by omega
    rw [View.read_writes_cons_unit_of_mem (v := M.view) (f := f) (s := S32x224x96) (inb := k0_off8_inb k rc) (L := L) (y := ix3 r s c)
      (x := (ix3 (⟨_, hr⟩ : Fin 8) (⟨_, hs⟩ : Fin 8) c : S8x8x96.Idx)) (heq := off8_eq k rc)
      (hx := by
        intro a
        match a with
        | ⟨0, _⟩ => show r.val = 8 * rc.val + (r.val - 8 * rc.val); omega
        | ⟨1, _⟩ => show s.val = 8 * k.val + (s.val - 8 * k.val); omega
        | ⟨2, _⟩ => show c.val = 0 + c.val; omega)]
    rw [chunk_apply]
    unfold rowAcc
    have e8 := congrFun (off8_eq k rc)
    have e7 := congrFun (off7_eq k rc)
    refine congr (congrArg (fun z => fma7 z _) (funext fun i => ?_)) ?_
    · refine congrArg (arg9.view.read (Elt F) X9) (funext fun a => Fin.ext ?_)
      match a with
      | ⟨0, _⟩ => show k0_off7 k (BitVec.ofNat 32 rc.val) 0 + 1 * (i.val + (r.val - 8 * rc.val)) = i.val + r.val
                  rw [show k0_off7 k (BitVec.ofNat 32 rc.val) 0 = 8 * rc.val from e7 0]; omega
      | ⟨1, _⟩ => show k0_off7 k (BitVec.ofNat 32 rc.val) 1 + 1 * (s.val - 8 * k.val) = s.val
                  rw [show k0_off7 k (BitVec.ofNat 32 rc.val) 1 = 8 * k.val from e7 1]; omega
      | ⟨2, _⟩ => show k0_off7 k (BitVec.ofNat 32 rc.val) 2 + 1 * c.val = c.val
                  rw [show k0_off7 k (BitVec.ofNat 32 rc.val) 2 = 0 from e7 2]; omega
    · refine congrArg (M.view.read (Elt F) f) (funext fun a => Fin.ext ?_)
      match a with
      | ⟨0, _⟩ => show k0_off8 k (BitVec.ofNat 32 rc.val) 0 + 1 * (r.val - 8 * rc.val) = r.val
                  rw [show k0_off8 k (BitVec.ofNat 32 rc.val) 0 = 8 * rc.val from e8 0]; omega
      | ⟨1, _⟩ => show k0_off8 k (BitVec.ofNat 32 rc.val) 1 + 1 * (s.val - 8 * k.val) = s.val
                  rw [show k0_off8 k (BitVec.ofNat 32 rc.val) 1 = 8 * k.val from e8 1]; omega
      | ⟨2, _⟩ => show k0_off8 k (BitVec.ofNat 32 rc.val) 2 + 1 * c.val = c.val
                  rw [show k0_off8 k (BitVec.ofNat 32 rc.val) 2 = 0 from e8 2]; omega
  · rw [View.read_writes_cons_unit (v := M.view) (f := f) (s := S32x224x96) (heq := off8_eq k rc), dif_neg]
    intro hall
    have h0 : 8 * rc.val ≤ r.val ∧ r.val < 8 * rc.val + 8 := hall 0
    have h1 : 8 * k.val ≤ s.val ∧ s.val < 8 * k.val + 8 := hall 1
    exact h ⟨h0, h1⟩

/-- A trip read at an index: inside the chunk's columns the seven multiply-adds, elsewhere nothing changed. -/
theorem read_tripTo (k : Fin k0_t2_loop.trips) (f : BufTy.Contents (Elt F) M.view.ty) (r : Fin 32) (s : Fin 224) (c : Fin 96) :
    M.view.read (Elt F) (tripTo arg9 M w X9 k f) (ix3 r s c)
      = if 8 * k.val ≤ s.val ∧ s.val < 8 * k.val + 8
        then rowAcc w (arg9.view.read (Elt F) X9) (M.view.read (Elt F) f (ix3 r s c)) r s c
        else M.view.read (Elt F) f (ix3 r s c) := by
  unfold tripTo
  have hr : r.val < 32 := r.isLt
  have v0 : (0 : Fin 4).val = 0 := rfl
  have v1 : (1 : Fin 4).val = 1 := rfl
  have v2 : (2 : Fin 4).val = 2 := rfl
  have v3 : (3 : Fin 4).val = 3 := rfl
  rw [read_piece, read_piece, read_piece, read_piece, View.writes_nil, v0, v1, v2, v3]
  split_ifs <;> first | rfl | (exfalso; omega)

end Step

variable (i : grid0.Coords)
  (arg2 : Memref sig .tc .vmem S1x38x230x96 .f32) (harg2 : arg2.IsWhole)
  (arg3 : Memref sig .tc .smem S2x16 .i32) (harg3 : arg3.IsWhole)
  (arg4 : Memref sig .tc .vmem S8x7x7x96 .f32) (harg4 : arg4.IsWhole)
  (arg5 : Memref sig .tc .vmem S8x1x96 .f32) (harg5 : arg5.IsWhole)
  (arg6 : Memref sig .tc .vmem S7x7x96 .f32) (harg6 : arg6.IsWhole)
  (arg7 : Memref sig .tc .vmem S1x96 .f32) (harg7 : arg7.IsWhole)
  (arg8 : Memref sig .tc .vmem S1x32x224x96 .f32) (harg8 : arg8.IsWhole)
  (arg9 : Memref sig .tc .vmem S38x224x96 .f32) (harg9 : arg9.IsWhole)
  (arg10 : Memref sig .tc .vmem S32x224x96 .f32) (harg10 : arg10.IsWhole)
  (arg11 : Memref sig .tc .vmem S32x224x96 .f32) (harg11 : arg11.IsWhole)
  (arg12 : Memref sig .tc .vmem S32x224x96 .f32) (harg12 : arg12.IsWhole)

/-- What one trip works on: the slab at its contents, the three accumulators at theirs. -/
abbrev Bufs (c : Dev nD) (b9 : Memref sig .tc .vmem S38x224x96 .f32) (b10 b11 b12 : Memref sig .tc .vmem S32x224x96 .f32)
    (X9 : BufTy.Contents (Elt F) b9.view.ty) (g10 : BufTy.Contents (Elt F) b10.view.ty) (g11 : BufTy.Contents (Elt F) b11.view.ty)
    (g12 : BufTy.Contents (Elt F) b12.view.ty) : sProp 𝕄 :=
  iprop((b9.view.loc (c : Thread nD τ) ↦[b9.view.set]{fullShare} X9) ∗ (b10.view.loc (c : Thread nD τ) ↦[b10.view.set]{fullShare} g10)
    ∗ (b11.view.loc (c : Thread nD τ) ↦[b11.view.set]{fullShare} g11) ∗ (b12.view.loc (c : Thread nD τ) ↦[b12.view.set]{fullShare} g12))

/-- One trip of the inner loop, run: each accumulator has its four blocks replaced, the slab is as it was. -/
theorem trip (c : Dev nD) (E : Set ℕ) (v55 : Vec F S1x1x7x96 .f32) (v59 : Vec F S1x1x7x96 .f32) (v62 : Vec F S1x7x96 .f32) (k : Fin k0_t2_loop.trips)
    (X9 : BufTy.Contents (Elt F) arg9.view.ty) (f_arg10 : BufTy.Contents (Elt F) arg10.view.ty) (f_arg11 : BufTy.Contents (Elt F) arg11.view.ty)
    (f_arg12 : BufTy.Contents (Elt F) arg12.view.ty) :
    Bufs (F := F) c arg9 arg10 arg11 arg12 X9 f_arg10 f_arg11 f_arg12
      ⊢ wp frame (wpE (defs₀ (F := F)) 𝒱₀ (c : Thread nD τ) none) E (k0_t2_body (F := F) i arg2 harg2 arg3 harg3 arg4 harg4 arg5 harg5 arg6 harg6 arg7 harg7 arg8 harg8 arg9 harg9 arg10 harg10 arg11 harg11 arg12 harg12 v55 v59 v62 k PUnit.unit)
          (fun _ => Bufs (F := F) c arg9 arg10 arg11 arg12 X9
            (tripTo arg9 arg10 (k0_pay42 v55) X9 k f_arg10)
            (tripTo arg9 arg11 (k0_pay43 v59) X9 k f_arg11)
            (tripTo arg9 arg12 (k0_pay44 v62) X9 k f_arg12)) := by
  have hk : k.val < 28 := Nat.lt_of_lt_of_le k.isLt k0_t2_abs.2.1
  unfold k0_t2_body
  iintro ⟨HR_arg9, HW_arg10, HW_arg11, HW_arg12⟩
  sl_exec
  sl_step
  isplitl [HR_arg9]; · iexact HR_arg9
  isplitl [HW_arg10]; · iexact HW_arg10
  isplitl [HW_arg11]; · iexact HW_arg11
  iexact HW_arg12

end Cert.Proof.Ex

end
-- ==== Proof.ExpertOuter.lean ====
/-
  The two loops of the expert kernel by their invariants. Inner: after `k` chunks each accumulator's first `8·k`
  columns have taken the seven multiply-adds. Outer: after `n` column offsets each accumulator holds the partial
  convolution over those offsets.
-/
module

public import Idealize.ShloMosaic.Lib.WholeRead
public import proofs.«01_k».proof.Proof.Gen.KernelIdeal.Frame
public import proofs.«01_k».proof.Proof.Gen.KernelIdeal.Skeleton
public import proofs.«01_k».proof.Proof.Gen.KernelIdeal.Loops
public import proofs.«01_k».proof.Proof.ExpertInner
public import Idealize.ShloMosaic.Lib.Exec
public import Idealize.ShloMosaic.Lib.Tactic
public import Idealize.ShloMosaic.Lib.Pipeline.Kit
public import Idealize.ShloMosaic.Lib.Pointwise
public import Idealize.ShloMosaic.Lib.WritesUnit
public import Idealize.ShloMosaic.Lib.VecWindow

@[expose] public section

set_option maxRecDepth 16384

noncomputable section

namespace Cert.Proof.Ex

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- An accumulator after `k` chunks of the inner loop, from slab `S`, filter rows `w` and the contents `G` it began with. -/
def cols (w : FVec F S7x96 .f32) (S : FVec F S38x224x96 .f32) (G : FVec F S32x224x96 .f32) : ℕ → FVec F S32x224x96 .f32
  | 0 => G
  | k + 1 => fun y => if 8 * k ≤ (y 1).val ∧ (y 1).val < 8 * k + 8 then rowAcc w S (cols w S G k y) (y 0) (y 1) (y 2) else cols w S G k y

theorem cols_apply (w : FVec F S7x96 .f32) (S : FVec F S38x224x96 .f32) (G : FVec F S32x224x96 .f32) (k : ℕ) (r : Fin 32) (s : Fin 224) (c : Fin 96) :
    cols w S G k (ix3 r s c) = if s.val < 8 * k then rowAcc w S (G (ix3 r s c)) r s c else G (ix3 r s c) := by
  induction k with
  | zero => rw [if_neg (by omega)]; rfl
  | succ k ih =>
    show (if 8 * k ≤ s.val ∧ s.val < 8 * k + 8 then rowAcc w S (cols w S G k (ix3 r s c)) r s c else cols w S G k (ix3 r s c)) = _
    rw [ih]
    split_ifs <;> first | rfl | (exfalso; omega)

theorem read_trip_cols (arg9 : Memref sig .tc .vmem S38x224x96 .f32) (M : Memref sig .tc .vmem S32x224x96 .f32) (w : FVec F S7x96 .f32)
    (X9 : BufTy.Contents (Elt F) arg9.view.ty) (G : FVec F S32x224x96 .f32) (k : Fin k0_t2_loop.trips) (f : BufTy.Contents (Elt F) M.view.ty)
    (h : M.view.read (Elt F) f = cols w (arg9.view.read (Elt F) X9) G k.val) :
    M.view.read (Elt F) (tripTo arg9 M w X9 k f) = cols w (arg9.view.read (Elt F) X9) G (k.val + 1) := by
  funext y
  idx_vars y
  rw [read_tripTo, h]
  rfl

variable (i : grid0.Coords)
  (arg2 : Memref sig .tc .vmem S1x38x230x96 .f32) (harg2 : arg2.IsWhole)
  (arg3 : Memref sig .tc .smem S2x16 .i32) (harg3 : arg3.IsWhole)
  (arg4 : Memref sig .tc .vmem S8x7x7x96 .f32) (harg4 : arg4.IsWhole)
  (arg5 : Memref sig .tc .vmem S8x1x96 .f32) (harg5 : arg5.IsWhole)
  (arg6 : Memref sig .tc .vmem S7x7x96 .f32) (harg6 : arg6.IsWhole)
  (arg7 : Memref sig .tc .vmem S1x96 .f32) (harg7 : arg7.IsWhole)
  (arg8 : Memref sig .tc .vmem S1x32x224x96 .f32) (harg8 : arg8.IsWhole)
  (arg9 : Memref sig .tc .vmem S38x224x96 .f32) (harg9 : arg9.IsWhole)
  (arg10 : Memref sig .tc .vmem S32x224x96 .f32) (harg10 : arg10.IsWhole)
  (arg11 : Memref sig .tc .vmem S32x224x96 .f32) (harg11 : arg11.IsWhole)
  (arg12 : Memref sig .tc .vmem S32x224x96 .f32) (harg12 : arg12.IsWhole)

set_option warn.classDefReducibility false in
/-- The inner loop by its invariant. -/
@[sl_loop] def innerInv (c : Dev nD) (E : Set ℕ) (v55 : Vec F S1x1x7x96 .f32) (v59 : Vec F S1x1x7x96 .f32) (v62 : Vec F S1x7x96 .f32)
    (X9 : BufTy.Contents (Elt F) arg9.view.ty) (G_arg10 : BufTy.Contents (Elt F) arg10.view.ty) (G_arg11 : BufTy.Contents (Elt F) arg11.view.ty)
    (G_arg12 : BufTy.Contents (Elt F) arg12.view.ty) :
    LoopInvTy_k0_t2 (F := F) Unit ℕ (UR sig nD τ) ℕ 𝒱₀ c none E i arg2 harg2 arg3 harg3 arg4 harg4 arg5 harg5 arg6 harg6 arg7 harg7 arg8 harg8 arg9 harg9 arg10 harg10 arg11 harg11 arg12 harg12 v55 v59 v62 where
  inv k _ := iprop((arg9.view.loc (c : Thread nD τ) ↦[arg9.view.set]{fullShare} X9)
      ∗ (∃ f, (arg10.view.loc (c : Thread nD τ) ↦[arg10.view.set]{fullShare} f) ∗ ⌜arg10.view.read (Elt F) f = cols (k0_pay42 v55) (arg9.view.read (Elt F) X9) (arg10.view.read (Elt F) G_arg10) k⌝)
      ∗ (∃ f, (arg11.view.loc (c : Thread nD τ) ↦[arg11.view.set]{fullShare} f) ∗ ⌜arg11.view.read (Elt F) f = cols (k0_pay43 v59) (arg9.view.read (Elt F) X9) (arg11.view.read (Elt F) G_arg11) k⌝)
      ∗ (∃ f, (arg12.view.loc (c : Thread nD τ) ↦[arg12.view.set]{fullShare} f) ∗ ⌜arg12.view.read (Elt F) f = cols (k0_pay44 v62) (arg9.view.read (Elt F) X9) (arg12.view.read (Elt F) G_arg12) k⌝))
  step k acc := by
    iintro ⟨H9, ⟨%f10, H10, %h10⟩, ⟨%f11, H11, %h11⟩, ⟨%f12, H12, %h12⟩⟩
    iapply (wp_wand_r Idealize.ShloMosaic.frame (wpE (defs₀ (F := F)) 𝒱₀ (c : Thread nD τ) none) E)
    isplitl [H9 H10 H11 H12]
    · iapply (trip (F := F) i arg2 harg2 arg3 harg3 arg4 harg4 arg5 harg5 arg6 harg6 arg7 harg7 arg8 harg8 arg9 harg9 arg10 harg10 arg11 harg11 arg12 harg12 c E v55 v59 v62 k X9 f10 f11 f12)
      isplitl [H9]; · iexact H9
      isplitl [H10]; · iexact H10
      isplitl [H11]; · iexact H11
      iexact H12
    · iintro %_ ⟨H9, H10, H11, H12⟩
      isplitl [H9]; · iexact H9
      isplitl [H10]
      · iexists _; isplitl [H10]; · iexact H10
        ipureintro; exact read_trip_cols _ _ _ _ _ k f10 h10
      isplitl [H11]
      · iexists _; isplitl [H11]; · iexact H11
        ipureintro; exact read_trip_cols _ _ _ _ _ k f11 h11
      iexists _; isplitl [H12]; · iexact H12
      ipureintro; exact read_trip_cols _ _ _ _ _ k f12 h12

/-- An accumulator after `n` column offsets: the partial convolution of the window block `x` with the filter `W`
    (offset, row, channel), from zero. -/
def conv (x : FVec F S1x38x230x96 .f32) (W : FVec F S7x7x96 .f32) : ℕ → FVec F S32x224x96 .f32
  | 0 => k0_pay38
  | n + 1 => fun y => if h : n < 7 then
      fma7 (fun t : Fin 7 => x (ix4 (0 : Fin 1) (⟨t.val + (y 0).val, by have : (y 0).val < 32 := (y 0).isLt; omega⟩ : Fin 38)
          (⟨n + (y 1).val, by have : (y 1).val < 224 := (y 1).isLt; omega⟩ : Fin 230) (y 2)))
        (fun t => W (ix3 (⟨n, h⟩ : Fin 7) t (y 2))) (conv x W n y)
    else conv x W n y

/-- The filter of the expert a word names. -/
def pick (we : FVec F S8x7x7x96 .f32) (v : BitVec 32) (hv : v.toNat < 8) : FVec F S7x7x96 .f32 :=
  fun y => we (ix4 (⟨v.toNat, hv⟩ : Fin 8) (y 0) (y 1) (y 2))

theorem off3_eq : ∀ j : Fin k0_t1_loop.trips, k0_off3 j = ![0, 0, j.val, 0] := by decide +kernel
theorem off6_eq : ∀ j : Fin k0_t1_loop.trips, k0_off6 j = ![j.val, 0, 0] := by decide +kernel
theorem iv_eq : ∀ j : Fin k0_t1_loop.trips, (Scalar.indexCast (Scf.iv (0#32 : BitVec 32) 1#32 j) : BitVec 32).toNat = j.val := by decide +kernel

theorem chk1_lt (v : BitVec 32) (h : k0_chk1 v) : v.toNat < 8 := by
  have := h.2 0
  have e : k0_off9 v 0 = v.toNat := rfl
  rw [e] at this
  have : v.toNat + 1 ≤ 8 := this
  omega
theorem chk2_lt (v : BitVec 32) (h : k0_chk2 v) : v.toNat < 8 := by
  have := h.2 0
  have e : k0_off10 v 0 = v.toNat := rfl
  rw [e] at this
  have : v.toNat + 1 ≤ 8 := this
  omega

/-- A memref's buffer on core `c`, held on the memref's elements at `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- Adding one column offset: the inner loop over all its chunks takes the partial convolution one offset further. -/
theorem conv_step (x : FVec F S1x38x230x96 .f32) (W : FVec F S7x7x96 .f32) (n : ℕ) (hn : n < 7) (w : FVec F S7x96 .f32) (S : FVec F S38x224x96 .f32)
    (hw : ∀ (t : Fin 7) (c : Fin 96), w (ix2 t c) = W (ix3 (⟨n, hn⟩ : Fin 7) t c))
    (hS : ∀ (r : Fin 38) (s : Fin 224) (c : Fin 96), S (ix3 r s c) = x (ix4 (0 : Fin 1) r (⟨n + s.val, by omega⟩ : Fin 230) c)) :
    cols w S (conv x W n) 28 = conv x W (n + 1) := by
  funext y
  obtain ⟨r, s, c, rfl⟩ : ∃ (r : Fin 32) (s : Fin 224) (c : Fin 96), y = ix3 r s c := ⟨y 0, y 1, y 2, by funext a; match a with | 0 => rfl | 1 => rfl | 2 => rfl⟩
  rw [cols_apply, if_pos (by omega)]
  unfold rowAcc
  simp only [hw, hS]
  show _ = dite (n < 7) _ _
  rw [dif_pos hn]
  rfl

/-- The slab the kernel copies: the window block's columns shifted by the offset. -/
theorem slab_apply (x : FVec F S1x38x230x96 .f32) (j : Fin k0_t1_loop.trips) (hj : j.val < 7) (f9 : BufTy.Contents (Elt F) arg9.view.ty) (L : List (View.Piece (Elt F) S38x224x96 .f32))
    (r : Fin 38) (s : Fin 224) (c : Fin 96) :
    arg9.view.read (Elt F) (arg9.view.writes (Elt F) f9
      (⟨Rect.unit (s := S38x224x96) ![0, 0, 0] S38x224x96.size inb_S38x224x96_S38x224x96_0_0_0,
        k0_pay41 (arg2.view.readAt (Elt F) (Rect.unit (s := S1x38x230x96) (k0_off3 j) S1x38x224x96.size (k0_off3_inb j)).toLoadRect (harg2.unread x))⟩ :: L))
      (ix3 r s c) = x (ix4 (0 : Fin 1) r (⟨j.val + s.val, by omega⟩ : Fin 230) c) := by
  rw [View.read_writes_full]
  pointwise [k0_pay41]
  rw [harg2.readAt_unread]
  refine congrArg x (funext fun a => Fin.ext ?_)
  have e := congrFun (off3_eq j)
  match a with
  | ⟨0, _⟩ => show k0_off3 j 0 + 1 * 0 = 0
              rw [show k0_off3 j 0 = 0 from e 0]
  | ⟨1, _⟩ => show k0_off3 j 1 + 1 * r.val = r.val
              rw [show k0_off3 j 1 = 0 from e 1]; omega
  | ⟨2, _⟩ => show k0_off3 j 2 + 1 * s.val = j.val + s.val
              rw [show k0_off3 j 2 = j.val from e 2]; omega
  | ⟨3, _⟩ => show k0_off3 j 3 + 1 * c.val = c.val
              rw [show k0_off3 j 3 = 0 from e 3]; omega

/-- The seven filter rows read for a chosen expert at a column offset, from an offset vector that names them. -/
theorem row_apply (we : FVec F S8x7x7x96 .f32) (v : BitVec 32) (hv : v.toNat < 8) (n : ℕ) (hn : n < 7) (off : Fin 4 → ℕ) (ho : off = ![v.toNat, n, 0, 0])
    (inb : ∀ a, off a + S1x1x7x96.size a ≤ S8x7x7x96.size a) (t : Fin 7) (c : Fin 96) :
    k0_pay42 (arg4.view.readAt (Elt F) (Rect.unit (s := S8x7x7x96) off S1x1x7x96.size inb).toLoadRect (harg4.unread we)) (ix2 t c)
      = pick we v hv (ix3 (⟨n, hn⟩ : Fin 7) t c) := by
  subst ho
  pointwise [k0_pay42, pick]
  rw [harg4.readAt_unread]
  refine congrArg we (funext fun a => Fin.ext ?_)
  match a with
  | ⟨0, _⟩ => show v.toNat + 1 * 0 = v.toNat; omega
  | ⟨1, _⟩ => show n + 1 * 0 = n; omega
  | ⟨2, _⟩ => show 0 + 1 * t.val = t.val; omega
  | ⟨3, _⟩ => show 0 + 1 * c.val = c.val; omega

/-- The seven rows of the shared filter at a column offset. -/
theorem srow_apply (ws : FVec F S7x7x96 .f32) (j : Fin k0_t1_loop.trips) (hj : j.val < 7) (t : Fin 7) (c : Fin 96) :
    k0_pay44 (arg6.view.readAt (Elt F) (Rect.unit (s := S7x7x96) (k0_off6 j) S1x7x96.size (k0_off6_inb j)).toLoadRect (harg6.unread ws)) (ix2 t c)
      = ws (ix3 (⟨j.val, hj⟩ : Fin 7) t c) := by
  pointwise [k0_pay44]
  rw [harg6.readAt_unread]
  refine congrArg ws (funext fun a => Fin.ext ?_)
  have e := congrFun (off6_eq j)
  match a with
  | ⟨0, _⟩ => show k0_off6 j 0 + 1 * 0 = j.val
              rw [show k0_off6 j 0 = j.val from e 0]; omega
  | ⟨1, _⟩ => show k0_off6 j 1 + 1 * t.val = t.val
              rw [show k0_off6 j 1 = 0 from e 1]; omega
  | ⟨2, _⟩ => show k0_off6 j 2 + 1 * c.val = c.val
              rw [show k0_off6 j 2 = 0 from e 2]; omega

theorem off4_eq (v : BitVec 32) (j : Fin k0_t1_loop.trips) : k0_off4 v j = ![v.toNat, j.val, 0, 0] := by
  rw [← iv_eq j]; rfl
theorem off5_eq (v : BitVec 32) (j : Fin k0_t1_loop.trips) : k0_off5 v j = ![v.toNat, j.val, 0, 0] := by
  rw [← iv_eq j]; rfl

theorem trips1 : k0_t1_loop.trips = 7 := by decide +kernel
theorem trips2 : Scf.trips k0_t2_loop.lb k0_t2_loop.ub k0_t2_loop.st = 28 := by decide +kernel

set_option warn.classDefReducibility false in
/-- The outer loop by its invariant: the staged blocks as they are, the slab at anything, each accumulator at the
    partial convolution over the offsets walked so far. -/
@[sl_loop] def outerInv (c : Dev nD) (E : Set ℕ) (v1 : Elt F .i32) (h1 : k0_chk1 v1) (v3 : Elt F .i32) (h3 : k0_chk2 v3)
    (x : FVec F S1x38x230x96 .f32) (we : FVec F S8x7x7x96 .f32) (ws : FVec F S7x7x96 .f32) :
    LoopInvTy_k0_t1 (F := F) Unit ℕ (UR sig nD τ) ℕ 𝒱₀ c none E i arg2 harg2 arg3 harg3 arg4 harg4 arg5 harg5 arg6 harg6 arg7 harg7 arg8 harg8 arg9 harg9 arg10 harg10 arg11 harg11 arg12 harg12 v1 h1 v3 h3 where
  inv n _ := iprop(pt c arg2 (harg2.unread x) ∗ pt c arg4 (harg4.unread we) ∗ pt c arg6 (harg6.unread ws) ∗ (∃ f, pt c arg9 f)
      ∗ (∃ f, pt c arg10 f ∗ ⌜arg10.view.read (Elt F) f = conv x (pick we v1 (chk1_lt v1 h1)) n⌝)
      ∗ (∃ f, pt c arg11 f ∗ ⌜arg11.view.read (Elt F) f = conv x (pick we v3 (chk2_lt v3 h3)) n⌝)
      ∗ (∃ f, pt c arg12 f ∗ ⌜arg12.view.read (Elt F) f = conv x ws n⌝))
  step j acc := by
    have hj : j.val < 7 := trips1 ▸ j.isLt
    unfold k0_t1_body
    iintro ⟨H2, H4, H6, ⟨%f9, H9⟩, ⟨%f10, H10, %h10⟩, ⟨%f11, H11, %h11⟩, ⟨%f12, H12, %h12⟩⟩
    sl_exec
    sl_step
    have e10 := hL2.trans ((by rw [trips2, h10]; rfl : _ = cols _ _ (conv x (pick we v1 (chk1_lt v1 h1)) j.val) 28).trans
      (conv_step x _ j.val hj _ _ (row_apply arg4 harg4 we v1 (chk1_lt v1 h1) j.val hj _ (off4_eq v1 j) _) (slab_apply arg2 harg2 arg9 x j hj _ [])))
    have e11 := hL4.trans ((by rw [trips2, h11]; rfl : _ = cols _ _ (conv x (pick we v3 (chk2_lt v3 h3)) j.val) 28).trans
      (conv_step x _ j.val hj _ _ (row_apply arg4 harg4 we v3 (chk2_lt v3 h3) j.val hj _ (off5_eq v3 j) _) (slab_apply arg2 harg2 arg9 x j hj _ [])))
    have e12 := hL6.trans ((by rw [trips2, h12]; rfl : _ = cols _ _ (conv x ws j.val) 28).trans
      (conv_step x _ j.val hj _ _ (srow_apply arg6 harg6 ws j hj) (slab_apply arg2 harg2 arg9 x j hj _ [])))
    isplitl [H2]; · iexact H2
    isplitl [H4]; · iexact H4
    isplitl [H6]; · iexact H6
    isplitl [H9]; · iexists _; iexact H9
    isplitl [H10]
    · iexists _; isplitl [H10]; · iexact H10
      ipureintro; exact e10
    isplitl [H11]
    · iexists _; isplitl [H11]; · iexact H11
      ipureintro; exact e11
    iexists _; isplitl [H12]; · iexact H12
    ipureintro; exact e12

end Cert.Proof.Ex

end
-- ==== Proof.ExpertBody.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.ExpertOuter
public import Idealize.ShloMosaic.Lib.Exec
public import Idealize.ShloMosaic.Lib.Tactic
public import Idealize.ShloMosaic.Lib.Pipeline.Kit
public import Idealize.ShloMosaic.Lib.Pointwise
public import Idealize.ShloMosaic.Lib.WritesUnit
public import Idealize.ShloMosaic.Lib.VecWindow

@[expose] public section

set_option maxRecDepth 16384

noncomputable section

namespace Cert.Proof.Ex

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
variable (i : grid0.Coords)
  (arg2 : Memref sig .tc .vmem S1x38x230x96 .f32) (harg2 : arg2.IsWhole)
  (arg3 : Memref sig .tc .smem S2x16 .i32) (harg3 : arg3.IsWhole)
  (arg4 : Memref sig .tc .vmem S8x7x7x96 .f32) (harg4 : arg4.IsWhole)
  (arg5 : Memref sig .tc .vmem S8x1x96 .f32) (harg5 : arg5.IsWhole)
  (arg6 : Memref sig .tc .vmem S7x7x96 .f32) (harg6 : arg6.IsWhole)
  (arg7 : Memref sig .tc .vmem S1x96 .f32) (harg7 : arg7.IsWhole)
  (arg8 : Memref sig .tc .vmem S1x32x224x96 .f32) (harg8 : arg8.IsWhole)
  (arg9 : Memref sig .tc .vmem S38x224x96 .f32) (harg9 : arg9.IsWhole)
  (arg10 : Memref sig .tc .vmem S32x224x96 .f32) (harg10 : arg10.IsWhole)
  (arg11 : Memref sig .tc .vmem S32x224x96 .f32) (harg11 : arg11.IsWhole)
  (arg12 : Memref sig .tc .vmem S32x224x96 .f32) (harg12 : arg12.IsWhole)

/-- An accumulator just zeroed reads as the partial convolution over no offset. -/
theorem zero_read (A : Memref sig .tc .vmem S32x224x96 .f32) (x : FVec F S1x38x230x96 .f32) (W : FVec F S7x7x96 .f32) (z : FVec F S32x224x96 .f32)
    (hz : z = k0_pay38) :
    A.view.read (Elt F) (A.view.writes (Elt F) A.view.junk
      [⟨Rect.unit (s := S32x224x96) ![0, 0, 0] S32x224x96.size inb_S32x224x96_S32x224x96_0_0_0, z⟩]) = conv x W 0  := by
  rw [View.read_writes_full, hz]; rfl

attribute [local irreducible] conv

theorem trips1' : Scf.trips k0_t1_loop.lb k0_t1_loop.ub k0_t1_loop.st = 7 := trips1

/-- The grid's first coordinate, as the row the body reads its words from. -/
theorem word_row (i : grid0.Coords) : (Scalar.indexCast (BitVec.ofNat 32 (i 0).val) : BitVec 32).toNat + 1 * 0 = (i 0).val := by
  revert i; decide +kernel

/-- A word below 8 passes the check of the first chosen expert's reads. -/
theorem chk1_of (v : BitVec 32) (h : v.toNat < 8) : k0_chk1 v := by
  refine ⟨fun j a => ?_, fun a => ?_⟩
  · have hj : j.val < 7 := trips1 ▸ j.isLt
    rw [off4_eq]
    match a with
    | ⟨0, _⟩ => show v.toNat + 1 ≤ 8; omega
    | ⟨1, _⟩ => show j.val + 1 ≤ 7; omega
    | ⟨2, _⟩ => show 0 + 7 ≤ 7; omega
    | ⟨3, _⟩ => show 0 + 96 ≤ 96; omega
  · match a with
    | ⟨0, _⟩ => show v.toNat + 1 ≤ 8; omega
    | ⟨1, _⟩ => show 0 + 1 ≤ 1; omega
    | ⟨2, _⟩ => show 0 + 96 ≤ 96; omega

/-- And the check of the second's. -/
theorem chk2_of (v : BitVec 32) (h : v.toNat < 8) : k0_chk2 v := by
  refine ⟨fun j a => ?_, (chk1_of v h).2⟩
  rw [off5_eq, ← off4_eq]; exact (chk1_of v h).1 j a

/-- The bias row of the expert a word names. -/
def bias (eb : FVec F S8x1x96 .f32) (v : BitVec 32) (hv : v.toNat < 8) : FVec F S1x1x96 .f32 :=
  fun y => eb (ix3 (⟨v.toNat, hv⟩ : Fin 8) (y 1) (y 2))

/-- The bias row as the kernel reads it. -/
theorem bias_read (eb : FVec F S8x1x96 .f32) (v : BitVec 32) (hv : v.toNat < 8) (inb : ∀ a, k0_off9 v a + S1x1x96.size a ≤ S8x1x96.size a) :
    arg5.view.readAt (Elt F) (Rect.unit (s := S8x1x96) (k0_off9 v) S1x1x96.size inb).toLoadRect (harg5.unread eb) = bias eb v hv := by
  funext y
  refine (harg5.readAt_unread _ _ _).trans (congrArg eb (funext fun a => Fin.ext ?_))
  match a with
  | ⟨0, _⟩ => show v.toNat + 1 * (y 0).val = v.toNat
              have : (y 0).val < 1 := (y 0).isLt
              omega
  | ⟨1, _⟩ => show 0 + 1 * (y 1).val = (y 1).val; omega
  | ⟨2, _⟩ => show 0 + 1 * (y 2).val = (y 2).val; omega

/-- What the body leaves in the output block: from the three convolutions over all offsets, the logarithm of the two
    chosen experts' exponentials summed, plus the shared convolution. -/
def outOf (x : FVec F S1x38x230x96 .f32) (we : FVec F S8x7x7x96 .f32) (eb : FVec F S8x1x96 .f32) (ws : FVec F S7x7x96 .f32) (sb : FVec F S1x96 .f32)
    (a b : BitVec 32) (ha : a.toNat < 8) (hb : b.toNat < 8) : FVec F S1x32x224x96 .f32 :=
  k0_pay1 (k0_pay46 (conv x (pick we a ha) 7) (bias eb a ha)) (conv x (pick we b hb) 7) (bias eb b hb) (conv x ws 7) sb

set_option maxHeartbeats 4000000 in
/-- THE BODY, run once: from the staged blocks — the two words it reads of the expert indices below 8 — with the output
    block and the four scratch buffers at anything, to the blocks as they were and the output block at `outOf`. -/
theorem body (c : Dev nD) (E : Set ℕ) (K : PUnit → sProp 𝕄) (x : FVec F S1x38x230x96 .f32) (tk : Vec F S2x16 .i32) (we : FVec F S8x7x7x96 .f32)
    (eb : FVec F S8x1x96 .f32) (ws : FVec F S7x7x96 .f32) (sb : FVec F S1x96 .f32) (ha : (tk (ix2 (i 0) 0)).toNat < 8) (hb : (tk (ix2 (i 0) 1)).toNat < 8) :
    iprop(owns (c : Thread nD τ) arg2 fullShare x ∗ owns (c : Thread nD τ) arg3 fullShare tk ∗ owns (c : Thread nD τ) arg4 fullShare we ∗ owns (c : Thread nD τ) arg5 fullShare eb
        ∗ owns (c : Thread nD τ) arg6 fullShare ws ∗ owns (c : Thread nD τ) arg7 fullShare sb ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x ∗ owns (c : Thread nD τ) arg3 fullShare tk ∗ owns (c : Thread nD τ) arg4 fullShare we ∗ owns (c : Thread nD τ) arg5 fullShare eb
          ∗ owns (c : Thread nD τ) arg6 fullShare ws ∗ owns (c : Thread nD τ) arg7 fullShare sb ∗ owns (c : Thread nD τ) arg8 fullShare (outOf x we eb ws sb _ _ ha hb)
          ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) 𝒱₀ (c : Thread nD τ) none) E (cc0__expert_body (F := F) i arg2 harg2 arg3 harg3 arg4 harg4 arg5 harg5 arg6 harg6 arg7 harg7 arg8 harg8 arg9 harg9 arg10 harg10 arg11 harg11 arg12 harg12) K := by
  have h1 := chk1_of _ ha
  have h3 := chk2_of _ hb
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩,
    ⟨%d9, %f9, -, H9⟩, ⟨%d10, %f10, -, H10⟩, ⟨%d11, %f11, -, H11⟩, ⟨%d12, %f12, -, H12⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  clear hf2 hf3 hf4 hf5 hf6 hf7
  sl_unfold [cc0__expert_body]
  sl_exec!
  have e1 : body.sl.r i arg3 harg3 c tk = tk (ix2 (i 0) 0) := by
    refine (harg3.readAt_unread _ _ _).trans (congrArg tk (funext fun a => Fin.ext ?_))
    match a with
    | ⟨0, _⟩ => exact word_row i
    | ⟨1, _⟩ => rfl
  rw [e1]
  simp only [wp_assume_of _ _ _ _ (d := k0_chk1.dec _) h1]
  sl_exec!
  have e3 : body.sl.r_1 i arg3 harg3 tk = tk (ix2 (i 0) 1) := by
    refine (harg3.readAt_unread _ _ _).trans (congrArg tk (funext fun a => Fin.ext ?_))
    match a with
    | ⟨0, _⟩ => exact word_row i
    | ⟨1, _⟩ => rfl
  rw [e3]
  simp only [wp_assume_of _ _ _ _ (d := k0_chk2.dec _) h3]
  have z10 := zero_read arg10 x (pick we _ (chk1_lt _ h1)) k0_pay38 rfl
  have z11 := zero_read arg11 x (pick we _ (chk2_lt _ h3)) k0_pay39 rfl
  have z12 := zero_read arg12 x ws k0_pay40 rfl
  sl_exec!
  sl_step
  rw [trips1'] at hL5 hL7 hL9
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (View.read_writes_full _ _ _ _ _).trans ?_
    have l10 := (View.readAt_full arg10.view _ inb_S32x224x96_S32x224x96_0_0_0).trans hL5
    have l11 := (View.readAt_full arg11.view _ inb_S32x224x96_S32x224x96_0_0_0).trans hL7
    have l12 := (View.readAt_full arg12.view _ inb_S32x224x96_S32x224x96_0_0_0).trans hL9
    have l7 := (View.readAt_full arg7.view _ inb_S1x96_S1x96_0_0).trans (harg7.read_unread (Val := Elt F) sb)
    have l5 := bias_read arg5 harg5 eb _ ha h1.2
    have l5' := bias_read arg5 harg5 eb _ hb h3.2
    exact congr (congr (congr (congr (congrArg k0_pay1 (congr (congrArg k0_pay46 l10) l5)) l11) l5') l12) l7
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexists _, _; isplitr; swap; · iexact H12
  ipureintro; rfl

end Cert.Proof.Ex

end
-- ==== Proof.ExpertRun.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.ExpertBody
public import Idealize.ShloMosaic.Lib.Exec
public import Idealize.ShloMosaic.Lib.Tactic
public import Idealize.ShloMosaic.Lib.Pipeline.Kit
public import Idealize.ShloMosaic.Lib.Pointwise
public import Idealize.ShloMosaic.Lib.WritesUnit
public import Idealize.ShloMosaic.Lib.VecWindow

@[expose] public section

set_option maxRecDepth 16384

noncomputable section

namespace Cert.Proof.Ex

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
open Idealize.ShloMosaic.Pipeline (Dat Cfg Window BodyObligation cellOf ΦA)

variable (m : (ℓ : Loc nD τ sig) → Buf (Elt F) ℓ) (ρ : Dev nD → PrngReg)

/-- What the run needs of the launch memory: each batch row's two expert indices name one of the eight experts. -/
def Words : Prop := ∀ (c : Dev nD) (b : Fin 2), (m ((c : Thread nD τ).loc main_arg1) (ix2 b (0 : Fin 16)) : BitVec 32).toNat < 8
  ∧ (m ((c : Thread nD τ).loc main_arg1) (ix2 b (1 : Fin 16)) : BitVec 32).toNat < 8

/-- The expert indices' window is the whole array at every point. -/
theorem iblk1_apply (c : Dev nD) (t : Fin cfg0.N) (y : S2x16.Idx) : iblk m c 1 t y = m ((c : Thread nD τ).loc main_arg1) y := by
  show V m c main_arg1 (((cfg0.win 1).blk t).view.emb y) = _
  rw [V_main_arg1]
  refine congrArg (m ((c : Thread nD τ).loc main_arg1)) (funext fun a => Fin.ext ?_)
  match a with
  | ⟨0, _⟩ => show 0 * 2 + 1 * (y 0).val = (y 0).val; omega
  | ⟨1, _⟩ => show 0 * 16 + 1 * (y 1).val = (y 1).val; omega

variable (hw : Words m)
include hw

theorem word_a (c : Dev nD) (t : Fin cfg0.N) : (iblk m c 1 t (ix2 (grid0.coords t 0) (0 : Fin 16)) : BitVec 32).toNat < 8 := by
  rw [iblk1_apply]; exact (hw c (grid0.coords t 0)).1
theorem word_b (c : Dev nD) (t : Fin cfg0.N) : (iblk m c 1 t (ix2 (grid0.coords t 0) (1 : Fin 16)) : BitVec 32).toNat < 8 := by
  rw [iblk1_apply]; exact (hw c (grid0.coords t 0)).2

/-- What the body leaves in the output window's block at a point. -/
def outsAt (c : Dev nD) (t : Fin cfg0.N) : FVec F S1x32x224x96 .f32 :=
  outOf (iblk m c 0 t) (iblk m c 2 t) (iblk m c 3 t) (iblk m c 4 t) (iblk m c 5 t) _ _ (word_a m hw c t) (word_b m hw c t)

/-- The pipeline's proof data: the arrays as the region finds them; after the body each input's block as it was and the
    output's at `outsAt`; the scratch buffers and the generator register at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m hw c t
  Φ _ := Pipeline.ΦA spec0 c
  q _ := fullShare
  owed _ := 0

theorem A_eq (c : Dev nD) (w : Fin cfg0.W) : (dats m hw 0 c).A w = V m c (Pipeline.arrRef spec0 w) := rfl
theorem after_0 (c : Dev nD) (t : Fin cfg0.N) : (dats m hw 0 c).after 0 t = iblk m c 0 t := by dsimp only [dats]
theorem after_1 (c : Dev nD) (t : Fin cfg0.N) : (dats m hw 0 c).after 1 t = iblk m c 1 t := by dsimp only [dats]
theorem after_2 (c : Dev nD) (t : Fin cfg0.N) : (dats m hw 0 c).after 2 t = iblk m c 2 t := by dsimp only [dats]
theorem after_3 (c : Dev nD) (t : Fin cfg0.N) : (dats m hw 0 c).after 3 t = iblk m c 3 t := by dsimp only [dats]
theorem after_4 (c : Dev nD) (t : Fin cfg0.N) : (dats m hw 0 c).after 4 t = iblk m c 4 t := by dsimp only [dats]
theorem after_5 (c : Dev nD) (t : Fin cfg0.N) : (dats m hw 0 c).after 5 t = iblk m c 5 t := by dsimp only [dats]
theorem after_6 (c : Dev nD) (t : Fin cfg0.N) : (dats m hw 0 c).after 6 t = outsAt m hw c t := by dsimp only [dats]
theorem before_0 (c : Dev nD) (t : Fin cfg0.N) (d) : (dats m hw 0 c).before 0 t d = iblk m c 0 t :=
  before0_0_of m (dats m hw 0 c) (A_eq m hw c 0) (after_0 m hw c) t d
theorem before_1 (c : Dev nD) (t : Fin cfg0.N) (d) : (dats m hw 0 c).before 1 t d = iblk m c 1 t :=
  before0_1_of m (dats m hw 0 c) (A_eq m hw c 1) (after_1 m hw c) t d
theorem before_2 (c : Dev nD) (t : Fin cfg0.N) (d) : (dats m hw 0 c).before 2 t d = iblk m c 2 t :=
  before0_2_of m (dats m hw 0 c) (A_eq m hw c 2) (after_2 m hw c) t d
theorem before_3 (c : Dev nD) (t : Fin cfg0.N) (d) : (dats m hw 0 c).before 3 t d = iblk m c 3 t :=
  before0_3_of m (dats m hw 0 c) (A_eq m hw c 3) (after_3 m hw c) t d
theorem before_4 (c : Dev nD) (t : Fin cfg0.N) (d) : (dats m hw 0 c).before 4 t d = iblk m c 4 t :=
  before0_4_of m (dats m hw 0 c) (A_eq m hw c 4) (after_4 m hw c) t d
theorem before_5 (c : Dev nD) (t : Fin cfg0.N) (d) : (dats m hw 0 c).before 5 t d = iblk m c 5 t :=
  before0_5_of m (dats m hw 0 c) (A_eq m hw c 5) (after_5 m hw c) t d

omit hw in
/-- The invariant between points, opened: the four scratch buffers whole at some contents, and the generator register. -/
theorem inv_open (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d))
      ∗ (∃ r, prngReg c r)) := by
  unfold Pipeline.ΦA
  rw [scopedRest0_eq]; simp only [owns_whole]; try rfl

/-- The body's obligation at every grid point. -/
theorem body_obligation (c : Dev nD) : BodyObligation (dats (F := F) m hw 0 c) (defs₀ (F := F)) 𝒱₀ () Set.univ := fun t => by
  rw [bigSep_W0, bigSep_W0]
  sl_whnfR [defs₀, Defs.onTc]
  simp only [before_0, before_1, before_2, before_3, before_4, before_5]
  rw [show (dats m hw 0 c).Φ t.succ = Pipeline.ΦA spec0 c from rfl, show (dats m hw 0 c).Φ t.castSucc = Pipeline.ΦA spec0 c from rfl,
    show (dats m hw 0 c).owesAt () t.succ = (dats m hw 0 c).owesAt () t.castSucc from rfl,
    after_0, after_1, after_2, after_3, after_4, after_5, after_6, inv_open]
  unfold outsAt
  iintro ⟨⟨⟨S0, S1, S2, S3⟩, HR⟩, Ho, ⟨%d0, H0⟩, ⟨%d1, H1⟩, ⟨%d2, H2⟩, ⟨%d3, H3⟩, ⟨%d4, H4⟩, ⟨%d5, H5⟩, ⟨%d6, H6⟩⟩
  iapply (body (grid0.coords t) _ _ _ _ _ _ _ _ _ _ _ _ _ _ _ _ _ _ _ _ _ _ c Set.univ _ (iblk m c 0 t) (iblk m c 1 t) (iblk m c 2 t) (iblk m c 3 t) (iblk m c 4 t) (iblk m c 5 t)
    (word_a m hw c t) (word_b m hw c t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  iintro ⟨H0, H1, H2, H3, H4, H5, H6, S0, S1, S2, S3⟩
  isplitl [S0 S1 S2 S3 HR]
  · isplitl [S0 S1 S2 S3]
    · isplitl [S0]; · iexact S0
      isplitl [S1]; · iexact S1
      isplitl [S2]; · iexact S2
      iexact S3
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- From any memory whose expert indices name experts, every fair execution of @main ends, with every array of the
    pipeline at what the proof data says and every semaphore at zero. -/
theorem run_main : θ_run defs (onTc (τ := τ) (main (F := F))) (s₀ m ρ)
    (fun r => Pipeline.FramePost cfgs (dats m hw) 0 (V m) r ∧ r.2.sem = fun _ => 0) :=
  Pipeline.θ_run_frame (Q' := _) cfgs (dats m hw) (0 : Fin 1) launch0 defs₀ 𝒱₀ m ρ main
    (hbody := fun c => (body_obligation m hw c).loose) (hshare := fun c => (dats m hw 0 c).share_full fun _ => rfl)
    (howed := fun _ _ => rfl) (V := V m) (hmain := hmain m 𝒱₀) (hA := fun _ _ => rfl) (hΦ := fun _ _ => rfl)

/-- The frame: the run ends with the arguments as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  θ_run_with_sems (frame_of m ρ (dats m hw) fun _ _ => rfl) (run_main m ρ hw)

end Cert.Proof.Ex

end
-- ==== Proof.ExpertBits.lean ====
module

public import proofs.«01_k».proof.Proof.Gen.Kernel
public import proofs.«01_k».proof.Proof.ExpertRun

/-! The same program printed once for words of floats and once for extended reals is one program over its values: what was
    proved of it at any values is a statement about the other printing too. -/

@[expose] public section

set_option maxRecDepth 65536

noncomputable section

namespace Cert.Proof.Ex

open Idealize.ShloMosaic Idealize.ShloMosaic.TcCoe
open Idealize.SL Idealize.SL.Sem

variable {F : FTy → Type} [FloatOps F]

/-- The kernels' body tables agree. -/
theorem table_eq : Cert.Kernel.defs₀ (F := F) = Cert.KernelIdeal.defs₀ (F := F) := by
  funext p l a
  match p with
  | .tc => match l, a with
    | ⟨0, _⟩, (t, s) => rfl
    | ⟨_ + 1, h⟩, _ => exact absurd h (Nat.not_lt.2 (Nat.le_add_left _ _))
  | .scScalar _ => rfl
  | .scVector _ _ => rfl

/-- So do the tables with the pipeline's own labels. -/
theorem defs_eq : Cert.Kernel.defs (F := F) = Cert.KernelIdeal.defs (F := F) :=
  congrArg (Pipeline.defs (Cert.KernelIdeal.pcfgs (F := F))) table_eq

/-- And the launched functions. -/
theorem main_eq : Cert.Kernel.main (F := F) = Cert.KernelIdeal.main (F := F) := rfl

/-- The frame of the first printing. -/
theorem frame_bits (m : (ℓ : Loc Cert.Kernel.nD Cert.Kernel.τ Cert.Kernel.sig) → Buf (Elt F) ℓ) (ρ : Dev Cert.Kernel.nD → PrngReg) (hw : Words (F := F) m) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [defs_eq, main_eq]
  exact frame m ρ hw

end Cert.Proof.Ex

end
-- ==== Proof.Plain.lean ====
module

public import Idealize.ShloMosaic.Lib.Pointwise

@[expose] public section

noncomputable section

namespace Cert.Proof.Pl

open Idealize.ShloMosaic

/-- A depthwise 7×7 convolution of a padded image at one output position: the sum of the 49 products. -/
def convAt (X : Fin 2 → Fin 230 → Fin 230 → Fin 96 → EReal) (W : Fin 7 → Fin 7 → Fin 96 → EReal)
    (b : Fin 2) (h w : Fin 224) (c : Fin 96) : EReal :=
  ∑ i : Fin 7, ∑ j : Fin 7, W i j c * X b ⟨i.val + h.val, by omega⟩ ⟨j.val + w.val, by omega⟩ c

/-- The two chosen experts' exponentials at one output position, summed. -/
def pairAt (X : Fin 2 → Fin 230 → Fin 230 → Fin 96 → EReal) (W : Fin 8 → Fin 7 → Fin 7 → Fin 96 → EReal) (B : Fin 8 → Fin 96 → EReal)
    (p q : Fin 8) (b : Fin 2) (h w : Fin 224) (c : Fin 96) : EReal :=
  Ideal.exp (convAt X (W p) b h w c + B p c) + Ideal.exp (convAt X (W q) b h w c + B q c)

/-- The mixture's output at one position: the logarithm of the two chosen experts' summed exponentials (of a small
    constant where the sum is zero), plus the shared convolution. -/
def outAt (X : Fin 2 → Fin 230 → Fin 230 → Fin 96 → EReal) (W : Fin 8 → Fin 7 → Fin 7 → Fin 96 → EReal) (B : Fin 8 → Fin 96 → EReal)
    (WS : Fin 7 → Fin 7 → Fin 96 → EReal) (BS : Fin 96 → EReal) (p q : Fin 8) (b : Fin 2) (h w : Fin 224) (c : Fin 96) : EReal :=
  Ideal.log (if pairAt X W B p q b h w c = 0 then Ideal.ofBits .f32 0x25800000#32 else pairAt X W B p q b h w c)
    + (convAt X WS b h w c + BS c)

/-- A sum over the eight experts that keeps exactly two different ones. -/
theorem sum_two (f : Fin 8 → EReal) (k : Fin 8 → EReal) (p q : Fin 8) (hpq : p ≠ q)
    (hk : ∀ n, k n = if p = n ∨ q = n then 1 else 0) : ∑ n, k n * f n = f p + f q := by
  have e : ∀ n, k n * f n = (if p = n then f n else 0) + (if q = n then f n else 0) := fun n => by
    rw [hk]
    by_cases h1 : p = n
    · have h2 : ¬ q = n := fun h => hpq (h1.trans h.symm)
      simp [h1, h2]
    · by_cases h2 : q = n <;> simp [h1, h2]
  rw [Finset.sum_congr rfl fun n _ => e n, Finset.sum_add_distrib, Finset.sum_ite_eq, Finset.sum_ite_eq]
  simp

end Cert.Proof.Pl

end
-- ==== Proof.ExpertPure.lean ====
module

public import proofs.«01_k».proof.Proof.ExpertBody
public import proofs.«01_k».proof.Proof.Plain
public import Idealize.ShloMosaic.Lib.Pointwise

@[expose] public section

set_option maxRecDepth 16384

noncomputable section

namespace Cert.Proof.Ex

open Cert.KernelIdeal Cert.KernelIdeal.Gen
open Idealize.ShloMosaic Idealize.ShloMosaic.TcCoe

/-- Seven products added one after another to a start are the start and their sum. -/
theorem fma7_sum (s w : Fin 7 → EReal) (a : EReal) : fma7 (F := Ideal) s w a = a + ∑ t : Fin 7, w t * s t := by
  have e : fma7 (F := Ideal) s w a = a + s 0 * w 0 + s 1 * w 1 + s 2 * w 2 + s 3 * w 3 + s 4 * w 4 + s 5 * w 5 + s 6 * w 6 := rfl
  rw [e, Fin.sum_univ_seven]
  ac_nf

/-- One column offset more of an accumulator: its products' sum is added. -/
theorem conv_succ (x : FVec Ideal S1x38x230x96 .f32) (W : FVec Ideal S7x7x96 .f32) (n : ℕ) (hn : n < 7) (r : Fin 32) (s : Fin 224) (c : Fin 96) :
    conv x W (n + 1) (ix3 r s c) = conv x W n (ix3 r s c)
      + ∑ i : Fin 7, W (ix3 (⟨n, hn⟩ : Fin 7) i c) * x (ix4 (0 : Fin 1) (⟨i.val + r.val, by omega⟩ : Fin 38) (⟨n + s.val, by omega⟩ : Fin 230) c) := by
  conv_lhs => unfold conv
  rw [dif_pos hn, fma7_sum]
  rfl

/-- A finished accumulator is the convolution: all 49 products, summed. -/
theorem conv_sum (x : FVec Ideal S1x38x230x96 .f32) (W : FVec Ideal S7x7x96 .f32) (r : Fin 32) (s : Fin 224) (c : Fin 96) :
    conv x W 7 (ix3 r s c) = ∑ i : Fin 7, ∑ j : Fin 7,
      W (ix3 j i c) * x (ix4 (0 : Fin 1) (⟨i.val + r.val, by omega⟩ : Fin 38) (⟨j.val + s.val, by omega⟩ : Fin 230) c) := by
  rw [Finset.sum_comm]
  have z : conv x W 0 (ix3 r s c) = (0 : EReal) := by
    show k0_pay38 (F := Ideal) (ix3 r s c) = 0
    pointwise [k0_pay38, k0_pay37]
  obtain ⟨f, hf⟩ : ∃ f : Fin 7 → EReal, ∀ j, f j = ∑ i : Fin 7,
      W (ix3 j i c) * x (ix4 (0 : Fin 1) (⟨i.val + r.val, by omega⟩ : Fin 38) (⟨j.val + s.val, by omega⟩ : Fin 230) c) := ⟨_, fun _ => rfl⟩
  have e : ∀ (n : ℕ) (hn : n < 7), conv x W (n + 1) (ix3 r s c) = conv x W n (ix3 r s c) + f ⟨n, hn⟩ := fun n hn => by
    rw [hf]; exact conv_succ x W n hn r s c
  refine Eq.trans ?_ (Finset.sum_congr rfl fun j _ => hf j)
  rw [e 6 (by omega), e 5 (by omega), e 4 (by omega), e 3 (by omega), e 2 (by omega), e 1 (by omega), e 0 (by omega), z, zero_add, Fin.sum_univ_seven f]
  rfl

/-- The block the body writes, at one position, of its accumulators. -/
theorem outOf_apply (x : FVec Ideal S1x38x230x96 .f32) (we : FVec Ideal S8x7x7x96 .f32) (eb : FVec Ideal S8x1x96 .f32) (ws : FVec Ideal S7x7x96 .f32)
    (sb : FVec Ideal S1x96 .f32) (a b : BitVec 32) (ha : a.toNat < 8) (hb : b.toNat < 8) (r : Fin 32) (s : Fin 224) (c : Fin 96) :
    outOf x we eb ws sb a b ha hb (ix4 (0 : Fin 1) r s c) =
      Ideal.log (if Ideal.exp (conv x (pick we a ha) 7 (ix3 r s c) + eb (ix3 ⟨a.toNat, ha⟩ 0 c))
            + Ideal.exp (conv x (pick we b hb) 7 (ix3 r s c) + eb (ix3 ⟨b.toNat, hb⟩ 0 c)) = 0 then Ideal.ofBits .f32 0x25800000#32
          else Ideal.exp (conv x (pick we a ha) 7 (ix3 r s c) + eb (ix3 ⟨a.toNat, ha⟩ 0 c))
            + Ideal.exp (conv x (pick we b hb) 7 (ix3 r s c) + eb (ix3 ⟨b.toNat, hb⟩ 0 c)))
        + (conv x ws 7 (ix3 r s c) + sb (ix2 0 c)) := by
  unfold outOf
  generalize conv x (pick we a ha) 7 = A
  generalize conv x (pick we b hb) 7 = B
  generalize conv x ws 7 = S
  pointwise [k0_pay1, k0_pay46, bias]

end Cert.Proof.Ex

end
-- ==== Proof.ExpertValue.lean ====
module

public import proofs.«01_k».proof.Proof.ExpertRun
public import proofs.«01_k».proof.Proof.ExpertPure
public import Idealize.ShloMosaic.Lib.Pointwise
public import Idealize.ShloMosaic.Lib.Claim

@[expose] public section

set_option maxRecDepth 16384

noncomputable section

namespace Cert.Proof.Ex

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-! ## The arrays the host code makes, and the blocks of them a point reads -/

/-- The input, channels last, with three zeros on every side of its image. -/
def image (x : FVec Ideal S2x96x224x224 .f32) : FVec Ideal S2x230x230x96 .f32 :=
  pad S2x230x230x96 ![0, 3, 3, 0] ![0, 3, 3, 0] ![0, 0, 0, 0] (transpose S2x224x224x96 [0, 2, 3, 1] x transposes_S2x96x224x224_S2x224x224x96_0_2_3_1)
    (sitofp .f32 (constantI S_ 32 0#32)) pads_S2x224x224x96_S2x230x230x96_000_330_330_000 h_S_
/-- The experts' filters, column offset first and channels last. -/
def filters (w : FVec Ideal S8x96x1x7x7 .f32) : FVec Ideal S8x7x7x96 .f32 :=
  transpose S8x7x7x96 [0, 3, 2, 1] (shapeCast S8x96x7x7 w shapeCasts_S8x96x1x7x7_S8x96x7x7) transposes_S8x96x7x7_S8x7x7x96_0_3_2_1
/-- The experts' biases with a unit axis. -/
def biases (b : FVec Ideal S8x96 .f32) : FVec Ideal S8x1x96 .f32 := shapeCast S8x1x96 b shapeCasts_S8x96_S8x1x96
/-- The shared filter, column offset first and channels last. -/
def sharedFilter (w : FVec Ideal S96x1x7x7 .f32) : FVec Ideal S7x7x96 .f32 :=
  transpose S7x7x96 [2, 1, 0] (shapeCast S96x7x7 w shapeCasts_S96x1x7x7_S96x7x7) transposes_S96x7x7_S7x7x96_2_1_0
/-- The shared bias as one row. -/
def sharedBias (b : FVec Ideal S96 .f32) : FVec Ideal S1x96 .f32 := shapeCast S1x96 b shapeCasts_S96_S1x96

theorem filters_apply (w : FVec Ideal S8x96x1x7x7 .f32) (n : Fin 8) (j i : Fin 7) (ch : Fin 96) : filters w (ix4 n j i ch) = w (ix5 n ch 0 i j) := by
  pointwise [filters]
theorem biases_apply (b : FVec Ideal S8x96 .f32) (n : Fin 8) (ch : Fin 96) : biases b (ix3 n 0 ch) = b (ix2 n ch) := by
  pointwise [biases]
theorem sharedFilter_apply (w : FVec Ideal S96x1x7x7 .f32) (j i : Fin 7) (ch : Fin 96) : sharedFilter w (ix3 j i ch) = w (ix4 ch 0 i j) := by
  pointwise [sharedFilter]
theorem sharedBias_apply (b : FVec Ideal S96 .f32) (ch : Fin 96) : sharedBias b (ix2 0 ch) = b (ix1 ch) := by
  pointwise [sharedBias]

/-- The padded image the region finds. -/
theorem img_is (c : Dev nD) : (V m c main_v1 : FVec Ideal S2x230x230x96 .f32) = image (m ((c : Thread nD τ).loc main_arg0)) := by
  show StableHlo.after [hostOps0, hostOps0_1, hostOps0_2].flatten (fun b => m (c, b)) (Proc.tc.devRef main_v1) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

/-- The experts' filters the region finds. -/
theorem we_is (c : Dev nD) : (V m c main_v3 : FVec Ideal S8x7x7x96 .f32) = filters (m ((c : Thread nD τ).loc main_arg2)) := by
  show StableHlo.after [hostOps0, hostOps0_1, hostOps0_2].flatten (fun b => m (c, b)) (Proc.tc.devRef main_v3) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

/-- The experts' biases the region finds. -/
theorem eb_is (c : Dev nD) : (V m c main_v4 : FVec Ideal S8x1x96 .f32) = biases (m ((c : Thread nD τ).loc main_arg3)) := by
  show StableHlo.after [hostOps0, hostOps0_1, hostOps0_2].flatten (fun b => m (c, b)) (Proc.tc.devRef main_v4) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

/-- The shared filter the region finds. -/
theorem ws_is (c : Dev nD) : (V m c main_v6 : FVec Ideal S7x7x96 .f32) = sharedFilter (m ((c : Thread nD τ).loc main_arg4)) := by
  show StableHlo.after [hostOps0, hostOps0_1, hostOps0_2].flatten (fun b => m (c, b)) (Proc.tc.devRef main_v6) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

/-- The shared bias the region finds. -/
theorem sb_is (c : Dev nD) : (V m c main_v7 : FVec Ideal S1x96 .f32) = sharedBias (m ((c : Thread nD τ).loc main_arg5)) := by
  show StableHlo.after [hostOps0, hostOps0_1, hostOps0_2].flatten (fun b => m (c, b)) (Proc.tc.devRef main_v7) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

theorem blk0 (c : Dev nD) (t : Fin cfg0.N) (r : Fin 38) (s : Fin 230) (ch : Fin 96) :
    (iblk m c 0 t : FVec Ideal S1x38x230x96 .f32) (ix4 0 r s ch) = (V m c main_v1 : FVec Ideal S2x230x230x96 .f32)
      (ix4 (grid0.coords t 0) ⟨32 * (grid0.coords t 1).val + r.val, by have : (grid0.coords t 1).val < 7 := (grid0.coords t 1).isLt; omega⟩ s ch) := by
  have e : ∀ t : Fin cfg0.N, cc0_transform_0 (grid0.coords t) = ![(grid0.coords t 0).val, 32 * (grid0.coords t 1).val, 0, 0] := by decide +kernel
  show V m c main_v1 (((cfg0.win 0).blk t).view.emb (ix4 0 r s ch)) = _
  refine congrArg (V m c main_v1) (funext fun a => Fin.ext ?_)
  match a with
  | ⟨0, _⟩ => show cc0_transform_0 (grid0.coords t) 0 + 1 * 0 = _; rw [e]; rfl
  | ⟨1, _⟩ => show cc0_transform_0 (grid0.coords t) 1 + 1 * r.val = _; rw [e, Nat.one_mul]; rfl
  | ⟨2, _⟩ => show cc0_transform_0 (grid0.coords t) 2 + 1 * s.val = _; rw [e, Nat.one_mul]; exact Nat.zero_add _
  | ⟨3, _⟩ => show cc0_transform_0 (grid0.coords t) 3 + 1 * ch.val = _; rw [e, Nat.one_mul]; exact Nat.zero_add _

theorem blk2 (c : Dev nD) (t : Fin cfg0.N) : iblk m c 2 t = V m c main_v3 := by
  funext y
  show V m c main_v3 (((cfg0.win 2).blk t).view.emb y) = _
  refine congrArg (V m c main_v3) (funext fun a => Fin.ext ?_)
  match a with
  | ⟨0, _⟩ => show 0 * 8 + 1 * (y 0).val = (y 0).val; omega
  | ⟨1, _⟩ => show 0 * 7 + 1 * (y 1).val = (y 1).val; omega
  | ⟨2, _⟩ => show 0 * 7 + 1 * (y 2).val = (y 2).val; omega
  | ⟨3, _⟩ => show 0 * 96 + 1 * (y 3).val = (y 3).val; omega

theorem blk3 (c : Dev nD) (t : Fin cfg0.N) : iblk m c 3 t = V m c main_v4 := by
  funext y
  show V m c main_v4 (((cfg0.win 3).blk t).view.emb y) = _
  refine congrArg (V m c main_v4) (funext fun a => Fin.ext ?_)
  match a with
  | ⟨0, _⟩ => show 0 * 8 + 1 * (y 0).val = (y 0).val; omega
  | ⟨1, _⟩ => show 0 * 1 + 1 * (y 1).val = (y 1).val; omega
  | ⟨2, _⟩ => show 0 * 96 + 1 * (y 2).val = (y 2).val; omega

theorem blk4 (c : Dev nD) (t : Fin cfg0.N) : iblk m c 4 t = V m c main_v6 := by
  funext y
  show V m c main_v6 (((cfg0.win 4).blk t).view.emb y) = _
  refine congrArg (V m c main_v6) (funext fun a => Fin.ext ?_)
  match a with
  | ⟨0, _⟩ => show 0 * 7 + 1 * (y 0).val = (y 0).val; omega
  | ⟨1, _⟩ => show 0 * 7 + 1 * (y 1).val = (y 1).val; omega
  | ⟨2, _⟩ => show 0 * 96 + 1 * (y 2).val = (y 2).val; omega

theorem blk5 (c : Dev nD) (t : Fin cfg0.N) : iblk m c 5 t = V m c main_v7 := by
  funext y
  show V m c main_v7 (((cfg0.win 5).blk t).view.emb y) = _
  refine congrArg (V m c main_v7) (funext fun a => Fin.ext ?_)
  match a with
  | ⟨0, _⟩ => show 0 * 1 + 1 * (y 0).val = (y 0).val; omega
  | ⟨1, _⟩ => show 0 * 96 + 1 * (y 1).val = (y 1).val; omega

/-! ## The result array -/

variable (hw : Words m)

/-- The expert a batch row's first index names. -/
def fst (c : Dev nD) (b : Fin 2) : Fin 8 := ⟨_, (hw c b).1⟩
/-- The expert a batch row's second index names. -/
def snd (c : Dev nD) (b : Fin 2) : Fin 8 := ⟨_, (hw c b).2⟩

/-- What the result array is shown to hold: the mixture's output at every position. -/
def G (c : Dev nD) : FVec Ideal S2x224x224x96 .f32 := fun y =>
  Pl.outAt (fun b h w ch => image (m ((c : Thread nD τ).loc main_arg0)) (ix4 b h w ch)) (fun n i j ch => ((m ((c : Thread nD τ).loc main_arg2)) : FVec Ideal S8x96x1x7x7 .f32) (ix5 n ch 0 i j))
    (fun n ch => ((m ((c : Thread nD τ).loc main_arg3)) : FVec Ideal S8x96 .f32) (ix2 n ch)) (fun i j ch => ((m ((c : Thread nD τ).loc main_arg4)) : FVec Ideal S96x1x7x7 .f32) (ix4 ch 0 i j))
    (fun ch => ((m ((c : Thread nD τ).loc main_arg5)) : FVec Ideal S96 .f32) (ix1 ch)) (fst m hw c (y 0)) (snd m hw c (y 0)) (y 0) (y 1) (y 2) (y 3)

/-- An accumulator over a block of the image is the convolution of the image at the block's place. -/
theorem conv_blk (X : FVec Ideal S2x230x230x96 .f32) (x : FVec Ideal S1x38x230x96 .f32) (W : FVec Ideal S7x7x96 .f32) (w : Fin 7 → Fin 7 → Fin 96 → EReal)
    (b : Fin 2) (k : Fin 7) (hx : ∀ (r : Fin 38) (s : Fin 230) (ch : Fin 96), x (ix4 0 r s ch) = X (ix4 b ⟨32 * k.val + r.val, by omega⟩ s ch))
    (hW : ∀ (j i : Fin 7) (ch : Fin 96), W (ix3 j i ch) = w i j ch) (r : Fin 32) (s : Fin 224) (ch : Fin 96) :
    conv x W 7 (ix3 r s ch) = Pl.convAt (fun b h w ch => X (ix4 b h w ch)) w b ⟨32 * k.val + r.val, by omega⟩ s ch := by
  rw [conv_sum]
  unfold Pl.convAt
  refine Finset.sum_congr rfl fun i _ => Finset.sum_congr rfl fun j _ => ?_
  rw [hx, hW]
  refine congrArg (w i j ch * ·) (congrArg X ?_)
  refine (ix4_inj ..).2 ⟨rfl, Fin.ext ?_, rfl, rfl⟩
  show 32 * k.val + (i.val + r.val) = i.val + (32 * k.val + r.val)
  omega

/-- What a point writes is the mixture's output at the block's place. -/
theorem outsAt_apply (c : Dev nD) (t : Fin cfg0.N) (r : Fin 32) (s : Fin 224) (ch : Fin 96) :
    outsAt m hw c t (ix4 0 r s ch) = G m hw c (ix4 (grid0.coords t 0)
      ⟨32 * (grid0.coords t 1).val + r.val, by have : (grid0.coords t 1).val < 7 := (grid0.coords t 1).isLt; omega⟩ s ch) := by
  have hx : ∀ (r : Fin 38) (s : Fin 230) (ch : Fin 96), (iblk m c 0 t : FVec Ideal S1x38x230x96 .f32) (ix4 0 r s ch) = image (m ((c : Thread nD τ).loc main_arg0))
      (ix4 (grid0.coords t 0) ⟨32 * (grid0.coords t 1).val + r.val, by have : (grid0.coords t 1).val < 7 := (grid0.coords t 1).isLt; omega⟩ s ch) :=
    fun r s ch => (blk0 m c t r s ch).trans (by rw [img_is])
  have e2 : iblk m c 2 t = filters (m ((c : Thread nD τ).loc main_arg2)) := (blk2 m c t).trans (we_is m c)
  have e3 : iblk m c 3 t = biases (m ((c : Thread nD τ).loc main_arg3)) := (blk3 m c t).trans (eb_is m c)
  have e4 : iblk m c 4 t = sharedFilter (m ((c : Thread nD τ).loc main_arg4)) := (blk4 m c t).trans (ws_is m c)
  have e5 : iblk m c 5 t = sharedBias (m ((c : Thread nD τ).loc main_arg5)) := (blk5 m c t).trans (sb_is m c)
  have a0 : iblk m c 1 t (ix2 (grid0.coords t 0) (0 : Fin 16)) = m ((c : Thread nD τ).loc main_arg1) (ix2 (grid0.coords t 0) (0 : Fin 16)) := iblk1_apply m c t _
  have a1 : iblk m c 1 t (ix2 (grid0.coords t 0) (1 : Fin 16)) = m ((c : Thread nD τ).loc main_arg1) (ix2 (grid0.coords t 0) (1 : Fin 16)) := iblk1_apply m c t _
  have na : (⟨_, word_a m hw c t⟩ : Fin 8) = fst m hw c (grid0.coords t 0) := Fin.ext (show (iblk m c 1 t (ix2 (grid0.coords t 0) (0 : Fin 16)) : BitVec 32).toNat = (m ((c : Thread nD τ).loc main_arg1) (ix2 (grid0.coords t 0) (0 : Fin 16)) : BitVec 32).toNat from congrArg BitVec.toNat a0)
  have nb : (⟨_, word_b m hw c t⟩ : Fin 8) = snd m hw c (grid0.coords t 0) := Fin.ext (show (iblk m c 1 t (ix2 (grid0.coords t 0) (1 : Fin 16)) : BitVec 32).toNat = (m ((c : Thread nD τ).loc main_arg1) (ix2 (grid0.coords t 0) (1 : Fin 16)) : BitVec 32).toNat from congrArg BitVec.toNat a1)
  unfold outsAt
  rw [outOf_apply]
  rw [conv_blk _ _ _ (fun i j ch => ((m ((c : Thread nD τ).loc main_arg2)) : FVec Ideal S8x96x1x7x7 .f32) (ix5 (fst m hw c (grid0.coords t 0)) ch 0 i j)) (grid0.coords t 0) (grid0.coords t 1) hx
      (fun j i ch => by
        show (iblk m c 2 t : FVec Ideal S8x7x7x96 .f32) (ix4 ⟨_, word_a m hw c t⟩ j i ch) = _
        rw [e2, na]; exact filters_apply _ _ _ _ _),
    conv_blk _ _ _ (fun i j ch => ((m ((c : Thread nD τ).loc main_arg2)) : FVec Ideal S8x96x1x7x7 .f32) (ix5 (snd m hw c (grid0.coords t 0)) ch 0 i j)) (grid0.coords t 0) (grid0.coords t 1) hx
      (fun j i ch => by
        show (iblk m c 2 t : FVec Ideal S8x7x7x96 .f32) (ix4 ⟨_, word_b m hw c t⟩ j i ch) = _
        rw [e2, nb]; exact filters_apply _ _ _ _ _),
    conv_blk _ _ _ (fun i j ch => ((m ((c : Thread nD τ).loc main_arg4)) : FVec Ideal S96x1x7x7 .f32) (ix4 ch 0 i j)) (grid0.coords t 0) (grid0.coords t 1) hx
      (fun j i ch => by rw [e4]; exact sharedFilter_apply _ _ _ _),
    na, nb, e3, e5, biases_apply, biases_apply, sharedBias_apply]
  rfl

/-- What point `t` writes back is its block of `G`. -/
theorem flushed_eq (c : Dev nD) (t : Fin cfg0.N) :
    (dats m hw 0 c).flushed 6 t = ((cfg0.win 6).blk t).view.read (Elt Ideal) (G m hw c) := by
  show (cfg0.win 6).cut (grid0.coords t) ((dats m hw 0 c).after 6 t) = _
  rw [after_6]
  funext y
  obtain ⟨r, s, ch, rfl⟩ : ∃ (r : Fin 32) (s : Fin 224) (ch : Fin 96), y = ix4 (0 : Fin 1) r s ch :=
    ⟨y 1, y 2, y 3, (eq_ix4 y).trans ((ix4_inj ..).2 ⟨Subsingleton.elim (α := Fin 1) _ _, rfl, rfl, rfl⟩)⟩
  have e : ∀ t : Fin cfg0.N, cc0_transform_6 (grid0.coords t) = ![(grid0.coords t 0).val, (grid0.coords t 1).val, 0, 0] := by decide +kernel
  show outsAt m hw c t (ix4 0 r s ch) = G m hw c (((cfg0.win 6).blk t).view.emb (ix4 0 r s ch))
  rw [outsAt_apply]
  refine congrArg (G m hw c) (funext fun a => Fin.ext ?_)
  match a with
  | ⟨0, _⟩ => show _ = cc0_transform_6 (grid0.coords t) 0 * 1 + 1 * 0; rw [e]; exact (Nat.mul_one _).symm
  | ⟨1, _⟩ => show 32 * (grid0.coords t 1).val + r.val = cc0_transform_6 (grid0.coords t) 1 * 32 + 1 * r.val
              rw [e]; show _ = (grid0.coords t 1).val * 32 + 1 * r.val; omega
  | ⟨2, _⟩ => show s.val = cc0_transform_6 (grid0.coords t) 2 * 224 + 1 * s.val; rw [e]; show _ = 0 * 224 + 1 * s.val; omega
  | ⟨3, _⟩ => show ch.val = cc0_transform_6 (grid0.coords t) 3 * 96 + 1 * ch.val; rw [e]; show _ = 0 * 96 + 1 * ch.val; omega

/-- The blocks tile the result array. -/
theorem cover (i : S2x224x224x96.Idx) :
    ∃ t : Fin cfg0.N, (cfg0.win 6).flush t = true ∧ i ∈ ((cfg0.win 6).blk t).view.set := by
  have h0 : (i 0 : Nat) < 2 := (i 0).isLt
  have h1 : (i 1 : Nat) < 224 := (i 1).isLt
  have h2 : (i 2 : Nat) < 224 := (i 2).isLt
  have h3 : (i 3 : Nat) < 96 := (i 3).isLt
  have pts : ∀ (b : Fin 2) (k : Fin 7), ∃ t : Fin cfg0.N, cc0_transform_6 (grid0.coords t) = ![b.val, k.val, 0, 0] := by decide +kernel
  obtain ⟨t, ht⟩ := pts ⟨(i 0 : Nat), h0⟩ ⟨(i 1 : Nat) / 32, by omega⟩
  refine ⟨t, flush0_6 t, ?_⟩
  show i ∈ ((View.whole main_v8).slice (win0_6.rect t)).set
  rw [View.set_slice_whole, Rect.mem_set_unit]
  intro a
  match a with
  | ⟨0, _⟩ => show cc0_transform_6 (grid0.coords t) 0 * 1 ≤ (i 0 : Nat) ∧ (i 0 : Nat) < cc0_transform_6 (grid0.coords t) 0 * 1 + 1
              rw [ht]; show (i 0 : Nat) * 1 ≤ _ ∧ _ < (i 0 : Nat) * 1 + 1; omega
  | ⟨1, _⟩ => show cc0_transform_6 (grid0.coords t) 1 * 32 ≤ (i 1 : Nat) ∧ (i 1 : Nat) < cc0_transform_6 (grid0.coords t) 1 * 32 + 32
              rw [ht]; show (i 1 : Nat) / 32 * 32 ≤ _ ∧ _ < (i 1 : Nat) / 32 * 32 + 32; omega
  | ⟨2, _⟩ => show cc0_transform_6 (grid0.coords t) 2 * 224 ≤ (i 2 : Nat) ∧ (i 2 : Nat) < cc0_transform_6 (grid0.coords t) 2 * 224 + 224
              rw [ht]; show 0 * 224 ≤ _ ∧ _ < 0 * 224 + 224; omega
  | ⟨3, _⟩ => show cc0_transform_6 (grid0.coords t) 3 * 96 ≤ (i 3 : Nat) ∧ (i 3 : Nat) < cc0_transform_6 (grid0.coords t) 3 * 96 + 96
              rw [ht]; show 0 * 96 ≤ _ ∧ _ < 0 * 96 + 96; omega

/-- The result array ends holding the mixture's output. -/
theorem final_o (c : Dev nD) : (dats m hw 0 c).arrAt 6 cfg0.N = G m hw c :=
  (dats m hw 0 c).arrAt_eq_of_cover 6 (G m hw c) (fun t _ => flushed_eq m hw c t) cover

/-- The run, read: the result array at the mixture's output. -/
theorem run_value : θ_run defs (onTc (τ := τ) (main (F := Ideal))) ⟨m, fun _ => 0, ρ⟩ fun r => ∀ c : Dev nD,
    r.2.mem ((c.tc : Thread nD τ).loc main_v8) = G m hw c :=
  (θ_run defs _ _).mono (fun _ h c => ((h.1 c).1 6).trans (final_o m hw c)) (run_main m ρ hw)

end Cert.Proof.Ex

end
-- ==== Proof.RefRun.lean ====
module

public import proofs.«01_k».proof.Proof.Gen.ReferenceIdeal
public import Idealize.ShloMosaic.Lib.StableHlo.Run

@[expose] public section

noncomputable section

namespace Cert.Proof.Rf

open Cert.ReferenceIdeal Cert.ReferenceIdeal.Gen Idealize.ShloMosaic Idealize.ShloMosaic.TcCoe Idealize.SL.Sem Idealize.ShloMosaic.StableHlo

variable {F : FTy → Type} [FloatOps F]

/-- Seven arrays, stacked along a new first axis. -/
def stackRows (u0 u1 u2 u3 u4 u5 u6 : FVec F S1x2x96x224x230 .f32) : FVec F S7x2x96x224x230 .f32 :=
  (concatenate S7x2x96x224x230 0 [⟨S1x2x96x224x230, u0⟩, ⟨S1x2x96x224x230, u1⟩, ⟨S1x2x96x224x230, u2⟩, ⟨S1x2x96x224x230, u3⟩, ⟨S1x2x96x224x230, u4⟩, ⟨S1x2x96x224x230, u5⟩, ⟨S1x2x96x224x230, u6⟩] concatenates_S1x2x96x224x230_S1x2x96x224x230_S1x2x96x224x230_S1x2x96x224x230_S1x2x96x224x230_S1x2x96x224x230_S1x2x96x224x230_S7x2x96x224x230_d0 : (⟨S7x2x96x224x230, .f32⟩ : BufTy).Contents (Elt F))
/-- Seven arrays, stacked along a new second axis. -/
def stackTaps (u0 u1 u2 u3 u4 u5 u6 : FVec F S7x1x2x96x224x224 .f32) : FVec F S7x7x2x96x224x224 .f32 :=
  (concatenate S7x7x2x96x224x224 1 [⟨S7x1x2x96x224x224, u0⟩, ⟨S7x1x2x96x224x224, u1⟩, ⟨S7x1x2x96x224x224, u2⟩, ⟨S7x1x2x96x224x224, u3⟩, ⟨S7x1x2x96x224x224, u4⟩, ⟨S7x1x2x96x224x224, u5⟩, ⟨S7x1x2x96x224x224, u6⟩] concatenates_S7x1x2x96x224x224_S7x1x2x96x224x224_S7x1x2x96x224x224_S7x1x2x96x224x224_S7x1x2x96x224x224_S7x1x2x96x224x224_S7x1x2x96x224x224_S7x7x2x96x224x224_d1 : (⟨S7x7x2x96x224x224, .f32⟩ : BufTy).Contents (Elt F))
/-- The input with three zeros on every side of its image. -/
def padded (x : FVec F S2x96x224x224 .f32) : FVec F S2x96x230x230 .f32 :=
  pad S2x96x230x230 ![0, 0, 3, 3] ![0, 0, 3, 3] ![0, 0, 0, 0] x (sitofp .f32 (constantI S_ 32 0#32)) pads_S2x96x224x224_S2x96x230x230_000_000_330_330 h_S_
/-- The seven row shifts of a padded input. -/
def rows (p : FVec F S2x96x230x230 .f32) : FVec F S7x2x96x224x230 .f32 :=
  stackRows
    (broadcastInDim S1x2x96x224x230 ![1, 2, 3, 4] bcast_S2x96x224x230_S1x2x96x224x230_1_2_3_4 (extractStridedSlice S2x96x224x230 ![0, 0, 0, 0] p slices_S2x96x230x230_S2x96x224x230_0_0_0_0))
    (broadcastInDim S1x2x96x224x230 ![1, 2, 3, 4] bcast_S2x96x224x230_S1x2x96x224x230_1_2_3_4 (extractStridedSlice S2x96x224x230 ![0, 0, 1, 0] p slices_S2x96x230x230_S2x96x224x230_0_0_1_0))
    (broadcastInDim S1x2x96x224x230 ![1, 2, 3, 4] bcast_S2x96x224x230_S1x2x96x224x230_1_2_3_4 (extractStridedSlice S2x96x224x230 ![0, 0, 2, 0] p slices_S2x96x230x230_S2x96x224x230_0_0_2_0))
    (broadcastInDim S1x2x96x224x230 ![1, 2, 3, 4] bcast_S2x96x224x230_S1x2x96x224x230_1_2_3_4 (extractStridedSlice S2x96x224x230 ![0, 0, 3, 0] p slices_S2x96x230x230_S2x96x224x230_0_0_3_0))
    (broadcastInDim S1x2x96x224x230 ![1, 2, 3, 4] bcast_S2x96x224x230_S1x2x96x224x230_1_2_3_4 (extractStridedSlice S2x96x224x230 ![0, 0, 4, 0] p slices_S2x96x230x230_S2x96x224x230_0_0_4_0))
    (broadcastInDim S1x2x96x224x230 ![1, 2, 3, 4] bcast_S2x96x224x230_S1x2x96x224x230_1_2_3_4 (extractStridedSlice S2x96x224x230 ![0, 0, 5, 0] p slices_S2x96x230x230_S2x96x224x230_0_0_5_0))
    (broadcastInDim S1x2x96x224x230 ![1, 2, 3, 4] bcast_S2x96x224x230_S1x2x96x224x230_1_2_3_4 (extractStridedSlice S2x96x224x230 ![0, 0, 6, 0] p slices_S2x96x230x230_S2x96x224x230_0_0_6_0))
/-- The seven column shifts of the row shifts. -/
def taps (r : FVec F S7x2x96x224x230 .f32) : FVec F S7x7x2x96x224x224 .f32 :=
  stackTaps
    (broadcastInDim S7x1x2x96x224x224 ![0, 2, 3, 4, 5] bcast_S7x2x96x224x224_S7x1x2x96x224x224_0_2_3_4_5 (extractStridedSlice S7x2x96x224x224 ![0, 0, 0, 0, 0] r slices_S7x2x96x224x230_S7x2x96x224x224_0_0_0_0_0))
    (broadcastInDim S7x1x2x96x224x224 ![0, 2, 3, 4, 5] bcast_S7x2x96x224x224_S7x1x2x96x224x224_0_2_3_4_5 (extractStridedSlice S7x2x96x224x224 ![0, 0, 0, 0, 1] r slices_S7x2x96x224x230_S7x2x96x224x224_0_0_0_0_1))
    (broadcastInDim S7x1x2x96x224x224 ![0, 2, 3, 4, 5] bcast_S7x2x96x224x224_S7x1x2x96x224x224_0_2_3_4_5 (extractStridedSlice S7x2x96x224x224 ![0, 0, 0, 0, 2] r slices_S7x2x96x224x230_S7x2x96x224x224_0_0_0_0_2))
    (broadcastInDim S7x1x2x96x224x224 ![0, 2, 3, 4, 5] bcast_S7x2x96x224x224_S7x1x2x96x224x224_0_2_3_4_5 (extractStridedSlice S7x2x96x224x224 ![0, 0, 0, 0, 3] r slices_S7x2x96x224x230_S7x2x96x224x224_0_0_0_0_3))
    (broadcastInDim S7x1x2x96x224x224 ![0, 2, 3, 4, 5] bcast_S7x2x96x224x224_S7x1x2x96x224x224_0_2_3_4_5 (extractStridedSlice S7x2x96x224x224 ![0, 0, 0, 0, 4] r slices_S7x2x96x224x230_S7x2x96x224x224_0_0_0_0_4))
    (broadcastInDim S7x1x2x96x224x224 ![0, 2, 3, 4, 5] bcast_S7x2x96x224x224_S7x1x2x96x224x224_0_2_3_4_5 (extractStridedSlice S7x2x96x224x224 ![0, 0, 0, 0, 5] r slices_S7x2x96x224x230_S7x2x96x224x224_0_0_0_0_5))
    (broadcastInDim S7x1x2x96x224x224 ![0, 2, 3, 4, 5] bcast_S7x2x96x224x224_S7x1x2x96x224x224_0_2_3_4_5 (extractStridedSlice S7x2x96x224x224 ![0, 0, 0, 0, 6] r slices_S7x2x96x224x230_S7x2x96x224x224_0_0_0_0_6))
/-- Which experts each batch row chooses, as ones and zeros. -/
def mask (w : IVec S2x16 32) : FVec F S8x2 .f32 :=
  uitofp .f32 (ori (cmpi .eq (broadcastInDim S8x2 ![0, 1] bcast_S1x2_S8x2_0_1 (broadcastInDim S1x2 ![1] bcast_S2_S1x2_1 (shapeCast _ (extractStridedSlice S2x1 ![0, 0] w slices_S2x16_S2x1_0_0) shapeCasts_S2x1_S2))) (broadcastInDim S8x2 ![0, 1] bcast_S8x1_S8x2_0_1 (broadcastInDim S8x1 ![0] bcast_S8_S8x1_0 (iotaInDim S8 32 0)))) (cmpi .eq (broadcastInDim S8x2 ![0, 1] bcast_S1x2_S8x2_0_1 (broadcastInDim S1x2 ![1] bcast_S2_S1x2_1 (shapeCast _ (extractStridedSlice S2x1 ![0, 1] w slices_S2x16_S2x1_0_1) shapeCasts_S2x1_S2))) (broadcastInDim S8x2 ![0, 1] bcast_S8x1_S8x2_0_1 (broadcastInDim S8x1 ![0] bcast_S8_S8x1_0 (iotaInDim S8 32 0)))))
/-- Every expert's convolution of the taps, with its bias. -/
def experts (T : FVec F S7x7x2x96x224x224 .f32) (ew : FVec F S8x96x1x7x7 .f32) (eb : FVec F S8x96 .f32) : FVec F S8x2x224x224x96 .f32 :=
  addf (transpose S8x2x224x224x96 [1, 2, 3, 4, 0] (Host.dotGeneral dot_S8x96x7x7_S7x7x2x96x224x224_S96x8x2x224x224_23_01_0_245_1_3 none (shapeCast _ ew shapeCasts_S8x96x1x7x7_S8x96x7x7) T) transposes_S96x8x2x224x224_S8x2x224x224x96_1_2_3_4_0) (broadcastInDim S8x2x224x224x96 ![0, 1, 2, 3, 4] bcast_S8x1x1x1x96_S8x2x224x224x96_0_1_2_3_4 (broadcastInDim S8x1x1x1x96 ![0, 4] bcast_S8x96_S8x1x1x1x96_0_4 eb))
/-- The chosen experts' exponentials, summed. -/
def stitched (T : FVec F S7x7x2x96x224x224 .f32) (w : IVec S2x16 32) (ew : FVec F S8x96x1x7x7 .f32) (eb : FVec F S8x96 .f32) : FVec F S2x224x224x96 .f32 :=
  Host.reduceAdd (mulf (broadcastInDim S8x2x224x224x96 ![0, 1, 2, 3, 4] bcast_S8x2x1x1x1_S8x2x224x224x96_0_1_2_3_4 (broadcastInDim S8x2x1x1x1 ![0, 1] bcast_S8x2_S8x2x1x1x1_0_1 (mask w))) (Host.exp (experts T ew eb))) (constant S_ .f32 0x00000000#32) reducesTo_S8x2x224x224x96_S2x224x224x96_d0 h_S_
/-- The shared convolution of the taps, with its bias. -/
def shared (T : FVec F S7x7x2x96x224x224 .f32) (sw : FVec F S96x1x7x7 .f32) (sb : FVec F S96 .f32) : FVec F S1x2x224x224x96 .f32 :=
  addf (transpose S1x2x224x224x96 [1, 2, 3, 4, 0] (Host.dotGeneral dot_S1x96x7x7_S7x7x2x96x224x224_S96x1x2x224x224_23_01_0_245_1_3 none (broadcastInDim S1x96x7x7 ![1, 2, 3] bcast_S96x7x7_S1x96x7x7_1_2_3 (shapeCast _ sw shapeCasts_S96x1x7x7_S96x7x7)) T) transposes_S96x1x2x224x224_S1x2x224x224x96_1_2_3_4_0) (broadcastInDim S1x2x224x224x96 ![0, 1, 2, 3, 4] bcast_S1x1x1x1x96_S1x2x224x224x96_0_1_2_3_4 (broadcastInDim S1x1x1x1x96 ![0, 4] bcast_S1x96_S1x1x1x1x96_0_4 (broadcastInDim S1x96 ![1] bcast_S96_S1x96_1 sb)))
/-- What the reference returns, of its taps and the other arguments. -/
def result (T : FVec F S7x7x2x96x224x224 .f32) (w : IVec S2x16 32) (ew : FVec F S8x96x1x7x7 .f32) (eb : FVec F S8x96 .f32) (sw : FVec F S96x1x7x7 .f32) (sb : FVec F S96 .f32) : FVec F S2x224x224x96 .f32 :=
  addf (Host.log (select (cmpf .oeq (stitched T w ew eb) (broadcastInDim S2x224x224x96 ![] bcast_S_S2x224x224x96 (constant S_ .f32 0x00000000#32))) (broadcastInDim S2x224x224x96 ![] bcast_S_S2x224x224x96 (id (constant S_ .f32 0x25800000#32))) (stitched T w ew eb))) (shapeCast _ (shared T sw sb) shapeCasts_S1x2x224x224x96_S2x224x224x96)

/-- The operations of the padding of the input, in order. -/
abbrev opsPad : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S2x96x224x224, .f32⟩) main_arg0) (TRef.of (T := ⟨S_, .f32⟩) main_call0_v0) (TRef.of (T := ⟨S2x96x230x230, .f32⟩) main_v0) (fun x v => pad S2x96x230x230 ![0, 0, 3, 3] ![0, 0, 3, 3] ![0, 0, 0, 0] x v pads_S2x96x224x224_S2x96x230x230_000_000_330_330 h_S_) ]

/-- The operations of the seven row shifts, stacked, in order. -/
abbrev opsRows : List (HloOp τ sig (Elt F)) :=
  [ unary main_v0 main_v1 ((extractStridedSlice S2x96x224x230 ![0, 0, 0, 0] · slices_S2x96x230x230_S2x96x224x230_0_0_0_0) : (⟨S2x96x230x230, .f32⟩ : BufTy).Contents (Elt F) → (⟨S2x96x224x230, .f32⟩ : BufTy).Contents (Elt F)),
    unary main_v0 main_v2 ((extractStridedSlice S2x96x224x230 ![0, 0, 1, 0] · slices_S2x96x230x230_S2x96x224x230_0_0_1_0) : (⟨S2x96x230x230, .f32⟩ : BufTy).Contents (Elt F) → (⟨S2x96x224x230, .f32⟩ : BufTy).Contents (Elt F)),
    unary main_v0 main_v3 ((extractStridedSlice S2x96x224x230 ![0, 0, 2, 0] · slices_S2x96x230x230_S2x96x224x230_0_0_2_0) : (⟨S2x96x230x230, .f32⟩ : BufTy).Contents (Elt F) → (⟨S2x96x224x230, .f32⟩ : BufTy).Contents (Elt F)),
    unary main_v0 main_v4 ((extractStridedSlice S2x96x224x230 ![0, 0, 3, 0] · slices_S2x96x230x230_S2x96x224x230_0_0_3_0) : (⟨S2x96x230x230, .f32⟩ : BufTy).Contents (Elt F) → (⟨S2x96x224x230, .f32⟩ : BufTy).Contents (Elt F)),
    unary main_v0 main_v5 ((extractStridedSlice S2x96x224x230 ![0, 0, 4, 0] · slices_S2x96x230x230_S2x96x224x230_0_0_4_0) : (⟨S2x96x230x230, .f32⟩ : BufTy).Contents (Elt F) → (⟨S2x96x224x230, .f32⟩ : BufTy).Contents (Elt F)),
    unary main_v0 main_v6 ((extractStridedSlice S2x96x224x230 ![0, 0, 5, 0] · slices_S2x96x230x230_S2x96x224x230_0_0_5_0) : (⟨S2x96x230x230, .f32⟩ : BufTy).Contents (Elt F) → (⟨S2x96x224x230, .f32⟩ : BufTy).Contents (Elt F)),
    unary main_v0 main_v7 ((extractStridedSlice S2x96x224x230 ![0, 0, 6, 0] · slices_S2x96x230x230_S2x96x224x230_0_0_6_0) : (⟨S2x96x230x230, .f32⟩ : BufTy).Contents (Elt F) → (⟨S2x96x224x230, .f32⟩ : BufTy).Contents (Elt F)),
    unary main_v1 main_v8 (broadcastInDim S1x2x96x224x230 ![1, 2, 3, 4] bcast_S2x96x224x230_S1x2x96x224x230_1_2_3_4 : (⟨S2x96x224x230, .f32⟩ : BufTy).Contents (Elt F) → (⟨S1x2x96x224x230, .f32⟩ : BufTy).Contents (Elt F)),
    unary main_v2 main_v9 (broadcastInDim S1x2x96x224x230 ![1, 2, 3, 4] bcast_S2x96x224x230_S1x2x96x224x230_1_2_3_4 : (⟨S2x96x224x230, .f32⟩ : BufTy).Contents (Elt F) → (⟨S1x2x96x224x230, .f32⟩ : BufTy).Contents (Elt F)),
    unary main_v3 main_v10 (broadcastInDim S1x2x96x224x230 ![1, 2, 3, 4] bcast_S2x96x224x230_S1x2x96x224x230_1_2_3_4 : (⟨S2x96x224x230, .f32⟩ : BufTy).Contents (Elt F) → (⟨S1x2x96x224x230, .f32⟩ : BufTy).Contents (Elt F)),
    unary main_v4 main_v11 (broadcastInDim S1x2x96x224x230 ![1, 2, 3, 4] bcast_S2x96x224x230_S1x2x96x224x230_1_2_3_4 : (⟨S2x96x224x230, .f32⟩ : BufTy).Contents (Elt F) → (⟨S1x2x96x224x230, .f32⟩ : BufTy).Contents (Elt F)),
    unary main_v5 main_v12 (broadcastInDim S1x2x96x224x230 ![1, 2, 3, 4] bcast_S2x96x224x230_S1x2x96x224x230_1_2_3_4 : (⟨S2x96x224x230, .f32⟩ : BufTy).Contents (Elt F) → (⟨S1x2x96x224x230, .f32⟩ : BufTy).Contents (Elt F)),
    unary main_v6 main_v13 (broadcastInDim S1x2x96x224x230 ![1, 2, 3, 4] bcast_S2x96x224x230_S1x2x96x224x230_1_2_3_4 : (⟨S2x96x224x230, .f32⟩ : BufTy).Contents (Elt F) → (⟨S1x2x96x224x230, .f32⟩ : BufTy).Contents (Elt F)),
    unary main_v7 main_v14 (broadcastInDim S1x2x96x224x230 ![1, 2, 3, 4] bcast_S2x96x224x230_S1x2x96x224x230_1_2_3_4 : (⟨S2x96x224x230, .f32⟩ : BufTy).Contents (Elt F) → (⟨S1x2x96x224x230, .f32⟩ : BufTy).Contents (Elt F)),
    nary ![main_v8, main_v9, main_v10, main_v11, main_v12, main_v13, main_v14] main_v15 (fun u => stackRows (F := F) (u 0) (u 1) (u 2) (u 3) (u 4) (u 5) (u 6)) ]

/-- The operations of the seven column shifts of the row shifts, stacked, in order. -/
abbrev opsTaps : List (HloOp τ sig (Elt F)) :=
  [ unary main_v15 main_v16 ((extractStridedSlice S7x2x96x224x224 ![0, 0, 0, 0, 0] · slices_S7x2x96x224x230_S7x2x96x224x224_0_0_0_0_0) : (⟨S7x2x96x224x230, .f32⟩ : BufTy).Contents (Elt F) → (⟨S7x2x96x224x224, .f32⟩ : BufTy).Contents (Elt F)),
    unary main_v15 main_v17 ((extractStridedSlice S7x2x96x224x224 ![0, 0, 0, 0, 1] · slices_S7x2x96x224x230_S7x2x96x224x224_0_0_0_0_1) : (⟨S7x2x96x224x230, .f32⟩ : BufTy).Contents (Elt F) → (⟨S7x2x96x224x224, .f32⟩ : BufTy).Contents (Elt F)),
    unary main_v15 main_v18 ((extractStridedSlice S7x2x96x224x224 ![0, 0, 0, 0, 2] · slices_S7x2x96x224x230_S7x2x96x224x224_0_0_0_0_2) : (⟨S7x2x96x224x230, .f32⟩ : BufTy).Contents (Elt F) → (⟨S7x2x96x224x224, .f32⟩ : BufTy).Contents (Elt F)),
    unary main_v15 main_v19 ((extractStridedSlice S7x2x96x224x224 ![0, 0, 0, 0, 3] · slices_S7x2x96x224x230_S7x2x96x224x224_0_0_0_0_3) : (⟨S7x2x96x224x230, .f32⟩ : BufTy).Contents (Elt F) → (⟨S7x2x96x224x224, .f32⟩ : BufTy).Contents (Elt F)),
    unary main_v15 main_v20 ((extractStridedSlice S7x2x96x224x224 ![0, 0, 0, 0, 4] · slices_S7x2x96x224x230_S7x2x96x224x224_0_0_0_0_4) : (⟨S7x2x96x224x230, .f32⟩ : BufTy).Contents (Elt F) → (⟨S7x2x96x224x224, .f32⟩ : BufTy).Contents (Elt F)),
    unary main_v15 main_v21 ((extractStridedSlice S7x2x96x224x224 ![0, 0, 0, 0, 5] · slices_S7x2x96x224x230_S7x2x96x224x224_0_0_0_0_5) : (⟨S7x2x96x224x230, .f32⟩ : BufTy).Contents (Elt F) → (⟨S7x2x96x224x224, .f32⟩ : BufTy).Contents (Elt F)),
    unary main_v15 main_v22 ((extractStridedSlice S7x2x96x224x224 ![0, 0, 0, 0, 6] · slices_S7x2x96x224x230_S7x2x96x224x224_0_0_0_0_6) : (⟨S7x2x96x224x230, .f32⟩ : BufTy).Contents (Elt F) → (⟨S7x2x96x224x224, .f32⟩ : BufTy).Contents (Elt F)),
    unary main_v16 main_v23 (broadcastInDim S7x1x2x96x224x224 ![0, 2, 3, 4, 5] bcast_S7x2x96x224x224_S7x1x2x96x224x224_0_2_3_4_5 : (⟨S7x2x96x224x224, .f32⟩ : BufTy).Contents (Elt F) → (⟨S7x1x2x96x224x224, .f32⟩ : BufTy).Contents (Elt F)),
    unary main_v17 main_v24 (broadcastInDim S7x1x2x96x224x224 ![0, 2, 3, 4, 5] bcast_S7x2x96x224x224_S7x1x2x96x224x224_0_2_3_4_5 : (⟨S7x2x96x224x224, .f32⟩ : BufTy).Contents (Elt F) → (⟨S7x1x2x96x224x224, .f32⟩ : BufTy).Contents (Elt F)),
    unary main_v18 main_v25 (broadcastInDim S7x1x2x96x224x224 ![0, 2, 3, 4, 5] bcast_S7x2x96x224x224_S7x1x2x96x224x224_0_2_3_4_5 : (⟨S7x2x96x224x224, .f32⟩ : BufTy).Contents (Elt F) → (⟨S7x1x2x96x224x224, .f32⟩ : BufTy).Contents (Elt F)),
    unary main_v19 main_v26 (broadcastInDim S7x1x2x96x224x224 ![0, 2, 3, 4, 5] bcast_S7x2x96x224x224_S7x1x2x96x224x224_0_2_3_4_5 : (⟨S7x2x96x224x224, .f32⟩ : BufTy).Contents (Elt F) → (⟨S7x1x2x96x224x224, .f32⟩ : BufTy).Contents (Elt F)),
    unary main_v20 main_v27 (broadcastInDim S7x1x2x96x224x224 ![0, 2, 3, 4, 5] bcast_S7x2x96x224x224_S7x1x2x96x224x224_0_2_3_4_5 : (⟨S7x2x96x224x224, .f32⟩ : BufTy).Contents (Elt F) → (⟨S7x1x2x96x224x224, .f32⟩ : BufTy).Contents (Elt F)),
    unary main_v21 main_v28 (broadcastInDim S7x1x2x96x224x224 ![0, 2, 3, 4, 5] bcast_S7x2x96x224x224_S7x1x2x96x224x224_0_2_3_4_5 : (⟨S7x2x96x224x224, .f32⟩ : BufTy).Contents (Elt F) → (⟨S7x1x2x96x224x224, .f32⟩ : BufTy).Contents (Elt F)),
    unary main_v22 main_v29 (broadcastInDim S7x1x2x96x224x224 ![0, 2, 3, 4, 5] bcast_S7x2x96x224x224_S7x1x2x96x224x224_0_2_3_4_5 : (⟨S7x2x96x224x224, .f32⟩ : BufTy).Contents (Elt F) → (⟨S7x1x2x96x224x224, .f32⟩ : BufTy).Contents (Elt F)),
    nary ![main_v23, main_v24, main_v25, main_v26, main_v27, main_v28, main_v29] main_v30 (fun u => stackTaps (F := F) (u 0) (u 1) (u 2) (u 3) (u 4) (u 5) (u 6)) ]

/-- The operations of the convolutions, the mask and the rest, in order. -/
abbrev opsRest : List (HloOp τ sig (Elt F)) :=
  [ nullary main_v31 (iotaInDim S8 32 0),
    unary main_v31 main_v32 (broadcastInDim S8x1 ![0] bcast_S8_S8x1_0 : (⟨S8, .i32⟩ : BufTy).Contents (Elt F) → (⟨S8x1, .i32⟩ : BufTy).Contents (Elt F)),
    unary main_arg1 main_v33 ((extractStridedSlice S2x1 ![0, 0] · slices_S2x16_S2x1_0_0) : (⟨S2x16, .i32⟩ : BufTy).Contents (Elt F) → (⟨S2x1, .i32⟩ : BufTy).Contents (Elt F)),
    reshape main_v33 main_v34 (rfl : (.i32 : EltTy) = .i32) shapeCasts_S2x1_S2,
    unary main_v34 main_v35 (broadcastInDim S1x2 ![1] bcast_S2_S1x2_1 : (⟨S2, .i32⟩ : BufTy).Contents (Elt F) → (⟨S1x2, .i32⟩ : BufTy).Contents (Elt F)),
    unary main_v35 main_v36 (broadcastInDim S8x2 ![0, 1] bcast_S1x2_S8x2_0_1 : (⟨S1x2, .i32⟩ : BufTy).Contents (Elt F) → (⟨S8x2, .i32⟩ : BufTy).Contents (Elt F)),
    unary main_v32 main_v37 (broadcastInDim S8x2 ![0, 1] bcast_S8x1_S8x2_0_1 : (⟨S8x1, .i32⟩ : BufTy).Contents (Elt F) → (⟨S8x2, .i32⟩ : BufTy).Contents (Elt F)),
    binary main_v36 main_v37 main_v38 (cmpi .eq : (⟨S8x2, .i32⟩ : BufTy).Contents (Elt F) → (⟨S8x2, .i32⟩ : BufTy).Contents (Elt F) → (⟨S8x2, .i1⟩ : BufTy).Contents (Elt F)),
    unary main_arg1 main_v39 ((extractStridedSlice S2x1 ![0, 1] · slices_S2x16_S2x1_0_1) : (⟨S2x16, .i32⟩ : BufTy).Contents (Elt F) → (⟨S2x1, .i32⟩ : BufTy).Contents (Elt F)),
    reshape main_v39 main_v40 (rfl : (.i32 : EltTy) = .i32) shapeCasts_S2x1_S2,
    unary main_v40 main_v41 (broadcastInDim S1x2 ![1] bcast_S2_S1x2_1 : (⟨S2, .i32⟩ : BufTy).Contents (Elt F) → (⟨S1x2, .i32⟩ : BufTy).Contents (Elt F)),
    unary main_v41 main_v42 (broadcastInDim S8x2 ![0, 1] bcast_S1x2_S8x2_0_1 : (⟨S1x2, .i32⟩ : BufTy).Contents (Elt F) → (⟨S8x2, .i32⟩ : BufTy).Contents (Elt F)),
    unary main_v32 main_v43 (broadcastInDim S8x2 ![0, 1] bcast_S8x1_S8x2_0_1 : (⟨S8x1, .i32⟩ : BufTy).Contents (Elt F) → (⟨S8x2, .i32⟩ : BufTy).Contents (Elt F)),
    binary main_v42 main_v43 main_v44 (cmpi .eq : (⟨S8x2, .i32⟩ : BufTy).Contents (Elt F) → (⟨S8x2, .i32⟩ : BufTy).Contents (Elt F) → (⟨S8x2, .i1⟩ : BufTy).Contents (Elt F)),
    binary main_v38 main_v44 main_v45 (ori : (⟨S8x2, .i1⟩ : BufTy).Contents (Elt F) → (⟨S8x2, .i1⟩ : BufTy).Contents (Elt F) → (⟨S8x2, .i1⟩ : BufTy).Contents (Elt F)),
    unary main_v45 main_v46 (uitofp .f32 : (⟨S8x2, .i1⟩ : BufTy).Contents (Elt F) → (⟨S8x2, .f32⟩ : BufTy).Contents (Elt F)),
    reshape main_arg2 main_v47 (rfl : (.f32 : EltTy) = .f32) shapeCasts_S8x96x1x7x7_S8x96x7x7,
    binary main_v47 main_v30 main_v48 ((fun l r => Host.dotGeneral dot_S8x96x7x7_S7x7x2x96x224x224_S96x8x2x224x224_23_01_0_245_1_3 none l r) : (⟨S8x96x7x7, .f32⟩ : BufTy).Contents (Elt F) → (⟨S7x7x2x96x224x224, .f32⟩ : BufTy).Contents (Elt F) → (⟨S96x8x2x224x224, .f32⟩ : BufTy).Contents (Elt F)),
    unary main_v48 main_v49 ((transpose S8x2x224x224x96 [1, 2, 3, 4, 0] · transposes_S96x8x2x224x224_S8x2x224x224x96_1_2_3_4_0) : (⟨S96x8x2x224x224, .f32⟩ : BufTy).Contents (Elt F) → (⟨S8x2x224x224x96, .f32⟩ : BufTy).Contents (Elt F)),
    unary main_arg3 main_v50 (broadcastInDim S8x1x1x1x96 ![0, 4] bcast_S8x96_S8x1x1x1x96_0_4 : (⟨S8x96, .f32⟩ : BufTy).Contents (Elt F) → (⟨S8x1x1x1x96, .f32⟩ : BufTy).Contents (Elt F)),
    unary main_v50 main_v51 (broadcastInDim S8x2x224x224x96 ![0, 1, 2, 3, 4] bcast_S8x1x1x1x96_S8x2x224x224x96_0_1_2_3_4 : (⟨S8x1x1x1x96, .f32⟩ : BufTy).Contents (Elt F) → (⟨S8x2x224x224x96, .f32⟩ : BufTy).Contents (Elt F)),
    binary main_v49 main_v51 main_v52 (addf : (⟨S8x2x224x224x96, .f32⟩ : BufTy).Contents (Elt F) → (⟨S8x2x224x224x96, .f32⟩ : BufTy).Contents (Elt F) → (⟨S8x2x224x224x96, .f32⟩ : BufTy).Contents (Elt F)),
    unary main_v46 main_v53 (broadcastInDim S8x2x1x1x1 ![0, 1] bcast_S8x2_S8x2x1x1x1_0_1 : (⟨S8x2, .f32⟩ : BufTy).Contents (Elt F) → (⟨S8x2x1x1x1, .f32⟩ : BufTy).Contents (Elt F)),
    unary main_v52 main_v54 (Host.exp : (⟨S8x2x224x224x96, .f32⟩ : BufTy).Contents (Elt F) → (⟨S8x2x224x224x96, .f32⟩ : BufTy).Contents (Elt F)),
    unary main_v53 main_v55 (broadcastInDim S8x2x224x224x96 ![0, 1, 2, 3, 4] bcast_S8x2x1x1x1_S8x2x224x224x96_0_1_2_3_4 : (⟨S8x2x1x1x1, .f32⟩ : BufTy).Contents (Elt F) → (⟨S8x2x224x224x96, .f32⟩ : BufTy).Contents (Elt F)),
    binary main_v55 main_v54 main_v56 (mulf : (⟨S8x2x224x224x96, .f32⟩ : BufTy).Contents (Elt F) → (⟨S8x2x224x224x96, .f32⟩ : BufTy).Contents (Elt F) → (⟨S8x2x224x224x96, .f32⟩ : BufTy).Contents (Elt F)),
    nullary main_cst (constant S_ .f32 0x00000000#32),
    binary main_v56 main_cst main_v57 ((fun x v => Host.reduceAdd x v reducesTo_S8x2x224x224x96_S2x224x224x96_d0 h_S_) : (⟨S8x2x224x224x96, .f32⟩ : BufTy).Contents (Elt F) → (⟨S_, .f32⟩ : BufTy).Contents (Elt F) → (⟨S2x224x224x96, .f32⟩ : BufTy).Contents (Elt F)),
    nullary main_cst_0 (constant S_ .f32 0x00000000#32),
    unary main_cst_0 main_v58 (broadcastInDim S2x224x224x96 ![] bcast_S_S2x224x224x96 : (⟨S_, .f32⟩ : BufTy).Contents (Elt F) → (⟨S2x224x224x96, .f32⟩ : BufTy).Contents (Elt F)),
    binary main_v57 main_v58 main_v59 (cmpf .oeq : (⟨S2x224x224x96, .f32⟩ : BufTy).Contents (Elt F) → (⟨S2x224x224x96, .f32⟩ : BufTy).Contents (Elt F) → (⟨S2x224x224x96, .i1⟩ : BufTy).Contents (Elt F)),
    nullary main_cst_1 (constant S_ .f32 0x25800000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S2x224x224x96, .f32⟩) main_call1_v1) (broadcastInDim S2x224x224x96 ![] bcast_S_S2x224x224x96),
    TRef.ternary (TRef.of (T := ⟨S2x224x224x96, .i1⟩) main_v59) (TRef.of (T := ⟨S2x224x224x96, .f32⟩) main_call1_v1) (TRef.of (T := ⟨S2x224x224x96, .f32⟩) main_v57) (TRef.of (T := ⟨S2x224x224x96, .f32⟩) main_v60) select,
    reshape main_arg4 main_v61 (rfl : (.f32 : EltTy) = .f32) shapeCasts_S96x1x7x7_S96x7x7,
    unary main_v61 main_v62 (broadcastInDim S1x96x7x7 ![1, 2, 3] bcast_S96x7x7_S1x96x7x7_1_2_3 : (⟨S96x7x7, .f32⟩ : BufTy).Contents (Elt F) → (⟨S1x96x7x7, .f32⟩ : BufTy).Contents (Elt F)),
    unary main_arg5 main_v63 (broadcastInDim S1x96 ![1] bcast_S96_S1x96_1 : (⟨S96, .f32⟩ : BufTy).Contents (Elt F) → (⟨S1x96, .f32⟩ : BufTy).Contents (Elt F)),
    binary main_v62 main_v30 main_v64 ((fun l r => Host.dotGeneral dot_S1x96x7x7_S7x7x2x96x224x224_S96x1x2x224x224_23_01_0_245_1_3 none l r) : (⟨S1x96x7x7, .f32⟩ : BufTy).Contents (Elt F) → (⟨S7x7x2x96x224x224, .f32⟩ : BufTy).Contents (Elt F) → (⟨S96x1x2x224x224, .f32⟩ : BufTy).Contents (Elt F)),
    unary main_v64 main_v65 ((transpose S1x2x224x224x96 [1, 2, 3, 4, 0] · transposes_S96x1x2x224x224_S1x2x224x224x96_1_2_3_4_0) : (⟨S96x1x2x224x224, .f32⟩ : BufTy).Contents (Elt F) → (⟨S1x2x224x224x96, .f32⟩ : BufTy).Contents (Elt F)),
    unary main_v63 main_v66 (broadcastInDim S1x1x1x1x96 ![0, 4] bcast_S1x96_S1x1x1x1x96_0_4 : (⟨S1x96, .f32⟩ : BufTy).Contents (Elt F) → (⟨S1x1x1x1x96, .f32⟩ : BufTy).Contents (Elt F)),
    unary main_v66 main_v67 (broadcastInDim S1x2x224x224x96 ![0, 1, 2, 3, 4] bcast_S1x1x1x1x96_S1x2x224x224x96_0_1_2_3_4 : (⟨S1x1x1x1x96, .f32⟩ : BufTy).Contents (Elt F) → (⟨S1x2x224x224x96, .f32⟩ : BufTy).Contents (Elt F)),
    binary main_v65 main_v67 main_v68 (addf : (⟨S1x2x224x224x96, .f32⟩ : BufTy).Contents (Elt F) → (⟨S1x2x224x224x96, .f32⟩ : BufTy).Contents (Elt F) → (⟨S1x2x224x224x96, .f32⟩ : BufTy).Contents (Elt F)),
    reshape main_v68 main_v69 (rfl : (.f32 : EltTy) = .f32) shapeCasts_S1x2x224x224x96_S2x224x224x96,
    unary main_v60 main_v70 (Host.log : (⟨S2x224x224x96, .f32⟩ : BufTy).Contents (Elt F) → (⟨S2x224x224x96, .f32⟩ : BufTy).Contents (Elt F)),
    binary main_v70 main_v69 main_v71 (addf : (⟨S2x224x224x96, .f32⟩ : BufTy).Contents (Elt F) → (⟨S2x224x224x96, .f32⟩ : BufTy).Contents (Elt F) → (⟨S2x224x224x96, .f32⟩ : BufTy).Contents (Elt F)) ]

set_option maxRecDepth 8192
set_option maxHeartbeats 4000000

/-- These operations write no argument. -/
theorem opsPad_keep (V : Valuation τ sig (Elt F)) : after opsPad V (Proc.devRef .tc main_arg0) = V (Proc.devRef .tc main_arg0)
    ∧ after opsPad V (Proc.devRef .tc main_arg1) = V (Proc.devRef .tc main_arg1)
    ∧ after opsPad V (Proc.devRef .tc main_arg2) = V (Proc.devRef .tc main_arg2)
    ∧ after opsPad V (Proc.devRef .tc main_arg3) = V (Proc.devRef .tc main_arg3)
    ∧ after opsPad V (Proc.devRef .tc main_arg4) = V (Proc.devRef .tc main_arg4)
    ∧ after opsPad V (Proc.devRef .tc main_arg5) = V (Proc.devRef .tc main_arg5) := by
  refine ⟨?_, ?_, ?_, ?_, ?_, ?_⟩ <;> (simp only [opsPad, TRef.binary, TRef.ternary, TRef.unary, TRef.toBuf, TRef.ofBuf, cast_eq]; after_results_simp)

/-- These operations write no argument. -/
theorem opsRows_keep (V : Valuation τ sig (Elt F)) : after opsRows V (Proc.devRef .tc main_arg0) = V (Proc.devRef .tc main_arg0)
    ∧ after opsRows V (Proc.devRef .tc main_arg1) = V (Proc.devRef .tc main_arg1)
    ∧ after opsRows V (Proc.devRef .tc main_arg2) = V (Proc.devRef .tc main_arg2)
    ∧ after opsRows V (Proc.devRef .tc main_arg3) = V (Proc.devRef .tc main_arg3)
    ∧ after opsRows V (Proc.devRef .tc main_arg4) = V (Proc.devRef .tc main_arg4)
    ∧ after opsRows V (Proc.devRef .tc main_arg5) = V (Proc.devRef .tc main_arg5) := by
  refine ⟨?_, ?_, ?_, ?_, ?_, ?_⟩ <;> (simp only [opsRows, TRef.binary, TRef.ternary, TRef.unary, TRef.toBuf, TRef.ofBuf, cast_eq]; after_results_simp)

/-- These operations write no argument. -/
theorem opsTaps_keep (V : Valuation τ sig (Elt F)) : after opsTaps V (Proc.devRef .tc main_arg0) = V (Proc.devRef .tc main_arg0)
    ∧ after opsTaps V (Proc.devRef .tc main_arg1) = V (Proc.devRef .tc main_arg1)
    ∧ after opsTaps V (Proc.devRef .tc main_arg2) = V (Proc.devRef .tc main_arg2)
    ∧ after opsTaps V (Proc.devRef .tc main_arg3) = V (Proc.devRef .tc main_arg3)
    ∧ after opsTaps V (Proc.devRef .tc main_arg4) = V (Proc.devRef .tc main_arg4)
    ∧ after opsTaps V (Proc.devRef .tc main_arg5) = V (Proc.devRef .tc main_arg5) := by
  refine ⟨?_, ?_, ?_, ?_, ?_, ?_⟩ <;> (simp only [opsTaps, TRef.binary, TRef.ternary, TRef.unary, TRef.toBuf, TRef.ofBuf, cast_eq]; after_results_simp)

/-- These operations write no argument. -/
theorem opsRest_keep (V : Valuation τ sig (Elt F)) : after opsRest V (Proc.devRef .tc main_arg0) = V (Proc.devRef .tc main_arg0)
    ∧ after opsRest V (Proc.devRef .tc main_arg1) = V (Proc.devRef .tc main_arg1)
    ∧ after opsRest V (Proc.devRef .tc main_arg2) = V (Proc.devRef .tc main_arg2)
    ∧ after opsRest V (Proc.devRef .tc main_arg3) = V (Proc.devRef .tc main_arg3)
    ∧ after opsRest V (Proc.devRef .tc main_arg4) = V (Proc.devRef .tc main_arg4)
    ∧ after opsRest V (Proc.devRef .tc main_arg5) = V (Proc.devRef .tc main_arg5) := by
  refine ⟨?_, ?_, ?_, ?_, ?_, ?_⟩ <;> (simp only [opsRest, TRef.binary, TRef.ternary, TRef.unary, TRef.toBuf, TRef.ofBuf, cast_eq]; after_results_simp)

theorem opsPad_read (V : Valuation τ sig (Elt F)) :
    after opsPad V (Proc.devRef .tc main_v0) = padded (V (Proc.devRef .tc main_arg0)) := by
  simp only [opsPad, TRef.binary, TRef.ternary, TRef.unary, TRef.toBuf, TRef.ofBuf, cast_eq]; after_results_simp; rfl

theorem opsRows_read (V : Valuation τ sig (Elt F)) :
    after opsRows V (Proc.devRef .tc main_v15) = rows (V (Proc.devRef .tc main_v0)) := by
  simp only [opsRows, TRef.binary, TRef.ternary, TRef.unary, TRef.toBuf, TRef.ofBuf, cast_eq]; after_results_simp <;> (try dsimp only [Matrix.cons_val]) <;> (try after_results_simp) <;> rfl

theorem opsTaps_read (V : Valuation τ sig (Elt F)) :
    after opsTaps V (Proc.devRef .tc main_v30) = taps (V (Proc.devRef .tc main_v15)) := by
  simp only [opsTaps, TRef.binary, TRef.ternary, TRef.unary, TRef.toBuf, TRef.ofBuf, cast_eq]; after_results_simp <;> (try dsimp only [Matrix.cons_val]) <;> (try after_results_simp) <;> rfl

theorem opsRest_read (V : Valuation τ sig (Elt F)) :
    after opsRest V (Proc.devRef .tc main_v71) = result (V (Proc.devRef .tc main_v30)) (V (Proc.devRef .tc main_arg1))
      (V (Proc.devRef .tc main_arg2)) (V (Proc.devRef .tc main_arg3)) (V (Proc.devRef .tc main_arg4)) (V (Proc.devRef .tc main_arg5)) := by
  simp only [opsRest, TRef.binary, TRef.ternary, TRef.unary, TRef.toBuf, TRef.ofBuf, cast_eq]; after_results_simp; unfold result stitched shared experts mask; rfl

/-- The whole program's operations. -/
abbrev allOps : List (HloOp τ sig (Elt F)) := opsPad ++ (opsRows ++ (opsTaps ++ opsRest))

theorem after_join (k l : List (HloOp τ sig (Elt F))) (V : Valuation τ sig (Elt F)) : after (k ++ l) V = after l (after k V) := by
  induction k generalizing V with
  | nil => rfl
  | cons o k ih => exact ih _

set_option maxRecDepth 8192 in
set_option maxHeartbeats 4000000 in
theorem main_is (c : Dev nD) : main (F := F) c = seq allOps := rfl
theorem no_scoped_refs : (Finset.univ.filter fun b : Ref sig .tc => b.isScoped) = ∅ := by decide
theorem no_scoped_sems : (Finset.univ.filter fun sm : SemLoc sig => sm.isScoped .tc) = ∅ := by decide
set_option maxRecDepth 8192 in
theorem within : (allOps : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., unary_bufs_sub .., unary_bufs_sub .., reshape_bufs_sub .., unary_bufs_sub .., unary_bufs_sub .., unary_bufs_sub .., binary_bufs_sub .., unary_bufs_sub .., reshape_bufs_sub .., unary_bufs_sub .., unary_bufs_sub .., unary_bufs_sub .., binary_bufs_sub .., binary_bufs_sub .., unary_bufs_sub .., reshape_bufs_sub .., binary_bufs_sub .., unary_bufs_sub .., unary_bufs_sub .., unary_bufs_sub .., binary_bufs_sub .., unary_bufs_sub .., unary_bufs_sub .., unary_bufs_sub .., binary_bufs_sub .., nullary_bufs_sub .., binary_bufs_sub .., nullary_bufs_sub .., unary_bufs_sub .., binary_bufs_sub .., nullary_bufs_sub .., unary_bufs_sub .., unary_bufs_sub .., ternary_bufs_sub .., reshape_bufs_sub .., unary_bufs_sub .., unary_bufs_sub .., binary_bufs_sub .., unary_bufs_sub .., unary_bufs_sub .., unary_bufs_sub .., binary_bufs_sub .., reshape_bufs_sub .., unary_bufs_sub .., binary_bufs_sub ..⟩

/-- What the program leaves in its result and its arguments, of the memory it starts from. -/
theorem all_read (V : Valuation τ sig (Elt F)) :
    after allOps V (Proc.devRef .tc main_v71) = result (taps (rows (padded (V (Proc.devRef .tc main_arg0))))) (V (Proc.devRef .tc main_arg1))
      (V (Proc.devRef .tc main_arg2)) (V (Proc.devRef .tc main_arg3)) (V (Proc.devRef .tc main_arg4)) (V (Proc.devRef .tc main_arg5))
    ∧ after allOps V (Proc.devRef .tc main_arg0) = V (Proc.devRef .tc main_arg0)
    ∧ after allOps V (Proc.devRef .tc main_arg1) = V (Proc.devRef .tc main_arg1)
    ∧ after allOps V (Proc.devRef .tc main_arg2) = V (Proc.devRef .tc main_arg2)
    ∧ after allOps V (Proc.devRef .tc main_arg3) = V (Proc.devRef .tc main_arg3)
    ∧ after allOps V (Proc.devRef .tc main_arg4) = V (Proc.devRef .tc main_arg4)
    ∧ after allOps V (Proc.devRef .tc main_arg5) = V (Proc.devRef .tc main_arg5) := by
  obtain ⟨p0, p1, p2, p3, p4, p5⟩ := opsPad_keep V
  obtain ⟨q0, q1, q2, q3, q4, q5⟩ := opsRows_keep (after opsPad V)
  obtain ⟨r0, r1, r2, r3, r4, r5⟩ := opsTaps_keep (after opsRows (after opsPad V))
  obtain ⟨s0, s1, s2, s3, s4, s5⟩ := opsRest_keep (after opsTaps (after opsRows (after opsPad V)))
  have e : after allOps V = after opsRest (after opsTaps (after opsRows (after opsPad V))) := by
    rw [after_join, after_join, after_join]
  rw [e]
  refine ⟨?_, s0.trans (r0.trans (q0.trans p0)), s1.trans (r1.trans (q1.trans p1)), s2.trans (r2.trans (q2.trans p2)),
    s3.trans (r3.trans (q3.trans p3)), s4.trans (r4.trans (q4.trans p4)), s5.trans (r5.trans (q5.trans p5))⟩
  refine (opsRest_read _).trans ?_
  rw [r1.trans (q1.trans p1), r2.trans (q2.trans p2), r3.trans (q3.trans p3), r4.trans (q4.trans p4), r5.trans (q5.trans p5),
    opsTaps_read, opsRows_read, opsPad_read]

/-- From any memory with zero counters every fair execution of the reference ends, with its result at `result` of the
    arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = result (taps (rows (padded (m ((c.tc : Thread nD τ).loc main_arg0)))))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
    obtain ⟨e, a0, a1, a2, a3, a4, a5⟩ := all_read (fun b => m (c, b))
    exact ⟨(h c main_v71).trans e, (h c main_arg0).trans a0, (h c main_arg1).trans a1, (h c main_arg2).trans a2,
      (h c main_arg3).trans a3, (h c main_arg4).trans a4, (h c main_arg5).trans a5⟩)
    (run_seq no_scoped_refs no_scoped_sems defs main (fun _ => allOps) main_is (fun _ => within) m ρ)

end Cert.Proof.Rf

end
-- ==== Proof.RefValue.lean ====
module

public import proofs.«01_k».proof.Proof.RefRun
public import proofs.«01_k».proof.Proof.Plain
public import Idealize.ShloMosaic.Lib.Pointwise

@[expose] public section

set_option maxRecDepth 16384

noncomputable section

namespace Cert.Proof.Rf

open Cert.ReferenceIdeal Cert.ReferenceIdeal.Gen Idealize.ShloMosaic Idealize.ShloMosaic.TcCoe Idealize.SL.Sem

/-- Row shift `i` of a padded input reads it `i` rows further down. -/
theorem rows_apply (p : FVec Ideal S2x96x230x230 .f32) (i : Fin 7) (b : Fin 2) (c : Fin 96) (h : Fin 224) (w : Fin 230) :
    rows p (ix5 i b c h w) = p (ix4 b c ⟨i.val + h.val, by omega⟩ w) := by
  pointwise [rows, stackRows]
  fin_vals i with hi <;> simp only [hi, Nat.reduceSub, Nat.reduceLT, ↓reduceDIte, ↓reduceIte, Nat.zero_add]

/-- Column shift `j` of the row shifts reads them `j` columns further on. -/
theorem taps_apply (r : FVec Ideal S7x2x96x224x230 .f32) (i j : Fin 7) (b : Fin 2) (c : Fin 96) (h w : Fin 224) :
    taps r (ix6 i j b c h w) = r (ix5 i b c h ⟨j.val + w.val, by omega⟩) := by
  pointwise [taps, stackTaps]
  fin_vals j with hj <;> simp only [hj, Nat.reduceSub, Nat.reduceLT, ↓reduceDIte, ↓reduceIte, Nat.zero_add]

/-- The convolution of an expert at an output position: the 49 products, summed, and the bias. -/
theorem experts_apply (T : FVec Ideal S7x7x2x96x224x224 .f32) (ew : FVec Ideal S8x96x1x7x7 .f32) (eb : FVec Ideal S8x96 .f32)
    (n : Fin 8) (b : Fin 2) (h w : Fin 224) (c : Fin 96) :
    experts T ew eb (ix5 n b h w c) = (∑ i : Fin 7, ∑ j : Fin 7, ew (ix5 n c 0 i j) * T (ix6 i j b c h w)) + eb (ix2 n c) := by
  pointwise [experts]

/-- The shared convolution at an output position. -/
theorem shared_apply (T : FVec Ideal S7x7x2x96x224x224 .f32) (sw : FVec Ideal S96x1x7x7 .f32) (sb : FVec Ideal S96 .f32)
    (b : Fin 2) (h w : Fin 224) (c : Fin 96) :
    shared T sw sb (ix5 0 b h w c) = (∑ i : Fin 7, ∑ j : Fin 7, sw (ix4 c 0 i j) * T (ix6 i j b c h w)) + sb (ix1 c) := by
  pointwise [shared]

/-- The chosen experts' exponentials, summed with the mask. -/
theorem stitched_apply (T : FVec Ideal S7x7x2x96x224x224 .f32) (w' : IVec S2x16 32) (ew : FVec Ideal S8x96x1x7x7 .f32) (eb : FVec Ideal S8x96 .f32)
    (b : Fin 2) (h w : Fin 224) (c : Fin 96) :
    stitched T w' ew eb (ix4 b h w c) = ∑ n : Fin 8, mask (F := Ideal) w' (ix2 n b) * Ideal.exp (experts T ew eb (ix5 n b h w c)) := by
  pointwise [stitched]

/-- The disjunction of two equality tests, as a float. -/
theorem bit_or (u v k : BitVec 32) :
    (FloatOps.uitofp (F := Ideal) .f32 (IntOp.ori (IntOp.cmpi .eq u k) (IntOp.cmpi .eq v k)) : EReal) = if u = k ∨ v = k then 1 else 0 := by
  have z : (FloatOps.uitofp (F := Ideal) .f32 (0#1) : EReal) = 0 := by show (((0#1).toNat : ℝ) : EReal) = 0; simp
  have o : (FloatOps.uitofp (F := Ideal) .f32 (1#1) : EReal) = 1 := by show (((1#1).toNat : ℝ) : EReal) = 1; simp
  have e : IntOp.ori (IntOp.cmpi .eq u k) (IntOp.cmpi .eq v k) = if u = k ∨ v = k then 1#1 else 0#1 := by
    have hu : ∀ u k : BitVec 32, IntOp.cmpi .eq u k = if u = k then 1#1 else 0#1 := fun u k => by
      by_cases h : u = k
      · rw [h, if_pos rfl]; simp [IntOp.cmpi]
      · rw [if_neg h]; simp [IntOp.cmpi, beq_eq_false_iff_ne.mpr h]
    rw [hu, hu]
    by_cases h1 : u = k <;> by_cases h2 : v = k <;> simp [IntOp.ori, h1, h2]
  rw [e]
  by_cases h : u = k ∨ v = k
  · rw [if_pos h, if_pos h]; exact o
  · rw [if_neg h, if_neg h]; exact z

/-- The mask is one at the two chosen experts. -/
theorem mask_apply (w' : IVec S2x16 32) (n : Fin 8) (b : Fin 2) :
    mask (F := Ideal) w' (ix2 n b) = if w' (ix2 b 0) = BitVec.ofNat 32 n.val ∨ w' (ix2 b 1) = BitVec.ofNat 32 n.val then 1 else 0 := by
  pointwise [mask]
  exact bit_or _ _ _

/-- The reference's result at an output position, of the sums above. -/
theorem result_apply (T : FVec Ideal S7x7x2x96x224x224 .f32) (w' : IVec S2x16 32) (ew : FVec Ideal S8x96x1x7x7 .f32) (eb : FVec Ideal S8x96 .f32)
    (sw : FVec Ideal S96x1x7x7 .f32) (sb : FVec Ideal S96 .f32) (b : Fin 2) (h w : Fin 224) (c : Fin 96) :
    result T w' ew eb sw sb (ix4 b h w c) =
      Ideal.log (if stitched T w' ew eb (ix4 b h w c) = 0 then Ideal.ofBits .f32 0x25800000#32 else stitched T w' ew eb (ix4 b h w c))
        + shared T sw sb (ix5 0 b h w c) := by
  pointwise [result]
  rfl

/-- The reference at an output position, for a batch row that chooses the two different experts `p` and `q`. -/
theorem result_out (x : FVec Ideal S2x96x224x224 .f32) (w' : IVec S2x16 32) (ew : FVec Ideal S8x96x1x7x7 .f32) (eb : FVec Ideal S8x96 .f32)
    (sw : FVec Ideal S96x1x7x7 .f32) (sb : FVec Ideal S96 .f32) (b : Fin 2) (h w : Fin 224) (c : Fin 96) (p q : Fin 8) (hpq : p ≠ q)
    (hp : w' (ix2 b 0) = BitVec.ofNat 32 p.val) (hq : w' (ix2 b 1) = BitVec.ofNat 32 q.val) :
    result (taps (rows (padded x))) w' ew eb sw sb (ix4 b h w c) =
      Pl.outAt (fun b h w c => padded x (ix4 b c h w)) (fun n i j c => ew (ix5 n c 0 i j)) (fun n c => eb (ix2 n c))
        (fun i j c => sw (ix4 c 0 i j)) (fun c => sb (ix1 c)) p q b h w c := by
  have hc : ∀ i j : Fin 7, taps (rows (padded x)) (ix6 i j b c h w) = padded x (ix4 b c ⟨i.val + h.val, by omega⟩ ⟨j.val + w.val, by omega⟩) :=
    fun i j => by rw [taps_apply, rows_apply]
  have he : ∀ n : Fin 8, experts (taps (rows (padded x))) ew eb (ix5 n b h w c)
      = Pl.convAt (fun b h w c => padded x (ix4 b c h w)) (fun i j c => ew (ix5 n c 0 i j)) b h w c + eb (ix2 n c) := fun n => by
    rw [experts_apply]
    simp only [hc]
    rfl
  have hs : stitched (taps (rows (padded x))) w' ew eb (ix4 b h w c)
      = Pl.pairAt (fun b h w c => padded x (ix4 b c h w)) (fun n i j c => ew (ix5 n c 0 i j)) (fun n c => eb (ix2 n c)) p q b h w c := by
    rw [stitched_apply]
    simp only [he]
    refine Pl.sum_two _ _ p q hpq fun n => ?_
    rw [mask_apply, hp, hq]
    have inj : ∀ k n : Fin 8, BitVec.ofNat 32 k.val = BitVec.ofNat 32 n.val ↔ k = n := by decide
    simp only [inj]
  rw [result_apply, hs, shared_apply]
  simp only [hc]
  rfl

end Cert.Proof.Rf

end
-- ==== Proof.Meet.lean ====
module

public import proofs.«01_k».proof.Defs
public import proofs.«01_k».proof.Proof.Chosen
public import proofs.«01_k».proof.Proof.ExpertBits
public import proofs.«01_k».proof.Proof.ExpertValue
public import proofs.«01_k».proof.Proof.RefValue

/-! Kernel and reference brought together: the precondition makes the indices of a batch row two different experts, and then
    both programs leave the mixture's output of `Plain` in their results. -/

@[expose] public section

set_option maxRecDepth 16384

noncomputable section

namespace Cert.Proof

open Idealize.ShloMosaic Idealize.ShloMosaic.TcCoe Idealize.SL.Sem

local instance : Cert.Pre_chosen.Facts := Cert.Pre_chosen.Gen.facts

/-- Both programs pad the input alike; one has turned the channels last before. -/
theorem padded_eq (x : FVec Ideal Cert.KernelIdeal.S2x96x224x224 .f32) (b : Fin 2) (h w : Fin 230) (c : Fin 96) :
    Ex.image x (ix4 b h w c) = Rf.padded x (ix4 b c h w) := by
  pointwise [Cert.Proof.Ex.image, Cert.Proof.Rf.padded]

/-- The precondition gives the first printing's run its two indices below eight. -/
theorem words_bits (m : (ℓ : Loc Cert.Kernel.nD Cert.Kernel.τ Cert.Kernel.sig) → Buf (Elt Bits) ℓ) (h : Cert.Pre_Kernel m) :
    Ex.Words (F := Bits) m := fun c b =>
  let d := Ch.decoded _ _ _ _ _ _ (h c) b
  ⟨d.1, d.2.1⟩

/-- And the second printing's. -/
theorem words_ideal (m : (ℓ : Loc Cert.KernelIdeal.nD Cert.KernelIdeal.τ Cert.KernelIdeal.sig) → Buf (Elt Ideal) ℓ) (h : Cert.Pre_KernelIdeal m) :
    Ex.Words (F := Ideal) m := fun c b =>
  let d := Ch.decoded _ _ _ _ _ _ (h c) b
  ⟨d.1, d.2.1⟩

/-- A word is the word of the number it stands for. -/
theorem ofNat_self (x : BitVec 32) : x = BitVec.ofNat 32 x.toNat :=
  BitVec.eq_of_toNat_eq (by rw [BitVec.toNat_ofNat, Nat.mod_eq_of_lt x.isLt])

/-- The reference's result, of the kernel's arguments, is what the kernel's result array ends holding. -/
theorem result_eq (m : (ℓ : Loc Cert.KernelIdeal.nD Cert.KernelIdeal.τ Cert.KernelIdeal.sig) → Buf (Elt Ideal) ℓ) (h : Cert.Pre_KernelIdeal m)
    (c : Dev Cert.KernelIdeal.nD) :
    Rf.result (Rf.taps (Rf.rows (Rf.padded (m ((c.tc : Thread Cert.KernelIdeal.nD Cert.KernelIdeal.τ).loc Cert.KernelIdeal.main_arg0)))))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      = Ex.G m (words_ideal m h) c := by
  funext y
  rw [eq_ix4 y]
  have d := Ch.decoded _ _ _ _ _ _ (h c) (y 0)
  refine (Rf.result_out _ _ _ _ _ _ (y 0) (y 1) (y 2) (y 3) (Ex.fst m (words_ideal m h) c (y 0)) (Ex.snd m (words_ideal m h) c (y 0))
    (fun e => d.2.2 (BitVec.eq_of_toNat_eq (show (Ex.fst m (words_ideal m h) c (y 0)).val = (Ex.snd m (words_ideal m h) c (y 0)).val from congrArg Fin.val e))) (ofNat_self _) (ofNat_self _)).trans ?_
  show Pl.outAt _ _ _ _ _ _ _ _ _ _ _ = Pl.outAt _ _ _ _ _ _ _ _ _ _ _
  congr 1
  funext b h w ch
  exact (padded_eq _ b h w ch).symm

/-- The frame of the kernel over words. -/
theorem frame_kernel : @Cert.quiescent_Kernel Cert.Kernel.Gen.facts Cert.Pre_chosen.Gen.facts := fun m ρ h => Ex.frame_bits m ρ (words_bits m h)

/-- The frame of the kernel over extended reals. -/
theorem frame_kernelIdeal : @Cert.quiescent_KernelIdeal Cert.KernelIdeal.Gen.facts Cert.Pre_chosen.Gen.facts :=
  fun m ρ h => Ex.frame m ρ (words_ideal m h)

/-- The frame of the reference, which has no semaphore. -/
theorem frame_reference : @Cert.quiescent_ReferenceIdeal Cert.ReferenceIdeal.Gen.facts Cert.Pre_chosen.Gen.facts :=
  fun m ρ _ => (θ_run Cert.ReferenceIdeal.defs _ _).mono (fun r h => ⟨fun c => (h c).2, sem_eq_zero_of_no_sems (by decide) r.2⟩) (Rf.run (F := Ideal) m ρ)

/-- Kernel and reference end with equal results. -/
theorem equal : @Cert.algebraic_KernelIdeal_ReferenceIdeal Cert.KernelIdeal.Gen.facts Cert.ReferenceIdeal.Gen.facts Cert.Pre_chosen.Gen.facts :=
  fun m ρ m' ρ' h hag =>
  ⟨Ex.G m (words_ideal m h),
    (θ_run Cert.KernelIdeal.defs _ _).mono (fun _ r c => ⟨r.1 c, r.2.1 c⟩)
      (θ_run_and (Ex.run_value m ρ (words_ideal m h)) (Ex.frame m ρ (words_ideal m h))),
    (θ_run Cert.ReferenceIdeal.defs _ _).mono (fun _ r c => ⟨(r c).1.trans (by
      obtain ⟨a0, a1, a2, a3, a4, a5⟩ := hag c
      rw [a0, a1, a2, a3, a4, a5]
      exact result_eq m h c), (r c).2⟩) (Rf.run (F := Ideal) m' ρ')⟩

end Cert.Proof

end
-- ==== Proof.Finite.lean ====
/-
  What the router's precondition says: every entry of its four arguments is a real number.
-/
module

public import proofs.«01_k».proof.Pre_finite
public import proofs.«01_k».proof.Proof.Gen.Pre_finite
public import Idealize.ShloMosaic.Lib.Pointwise
public import Idealize.ShloMosaic.Lib.ReduceAll
public import Idealize.ShloMosaic.Lib.WordCmp

@[expose] public section

set_option maxRecDepth 16384

noncomputable section

namespace Cert.Proof.Fi

open Cert.Pre_finite Idealize.ShloMosaic

local instance : Cert.Pre_finite.Facts := Cert.Pre_finite.Gen.facts

theorem bits_inf : Ideal.ofBits .f32 0x7F800000#32 = ⊤ := by
  simp [Ideal.ofBits, Ideal.ieee]

/-- A value whose magnitude is below infinity is a real number. -/
theorem real_of (v : Ideal .f32) (h : FloatOps.cmpf .olt (FloatOps.absf v) (FloatOps.ofBits .f32 0x7F800000#32 : Ideal .f32) = 1#1) :
    v = ((EReal.toReal v : ℝ) : EReal) := by
  have h' : BitVec.ofBool (decide ((FloatOps.absf v : EReal) < Ideal.ofBits .f32 0x7F800000#32)) = 1#1 := h
  rw [bits_inf] at h'
  have lt : (FloatOps.absf v : EReal) < ⊤ := by
    by_contra hn
    rw [decide_eq_false hn] at h'
    exact absurd h' (by decide)
  refine (EReal.coe_toReal ?_ ?_).symm
  · rintro rfl
    exact absurd lt (by simp [FloatOps.absf])
  · rintro rfl
    exact absurd lt (by simp [FloatOps.absf])

/-- The precondition, decoded: the entries are their own real parts. -/
theorem decoded (x : FVec Ideal S2x96x224x224 .f32) (w : FVec Ideal S1x96x7x7 .f32) (r : FVec Ideal S1 .f32) (g : FVec Ideal S50176x8 .f32)
    (h : Cert.Pre_finite.fn (F := Ideal) x w r g = fun _ => 1#1) :
    (∀ y, x y = ((EReal.toReal (x y) : ℝ) : EReal)) ∧ (∀ y, w y = ((EReal.toReal (w y) : ℝ) : EReal))
      ∧ (∀ y, r y = ((EReal.toReal (r y) : ℝ) : EReal)) ∧ (∀ y, g y = ((EReal.toReal (g y) : ℝ) : EReal)) := by
  have split : ∀ (a b : IVec S_ 1), andi a b ix0 = 1#1 → a ix0 = 1#1 ∧ b ix0 = 1#1 := fun a b h => IntOp.andi_eq_one.1 h
  obtain ⟨e123, e4⟩ := split _ _ (congrFun h ix0)
  obtain ⟨e12, e3⟩ := split _ _ e123
  obtain ⟨e1, e2⟩ := split _ _ e12
  exact ⟨fun y => real_of _ (Host.reduce_andi_all _ _ _ _ _ e1 y), fun y => real_of _ (Host.reduce_andi_all _ _ _ _ _ e2 y),
    fun y => real_of _ (Host.reduce_andi_all _ _ _ _ _ e3 y), fun y => real_of _ (Host.reduce_andi_all _ _ _ _ _ e4 y)⟩

end Cert.Proof.Fi

end
-- ==== Proof.RouteInner.lean ====
/-
  One trip of the router kernel's inner loop: the loop walks the 224 columns in chunks of eight; a chunk is four blocks
  of eight rows, and on each block the accumulator takes seven multiply-adds (the seven rows of the
  filter at the column offset the outer loop is at). The trip is run once at a symbolic chunk; what it leaves is
  read index by index.
-/
module

public import proofs.«01_k».proof.Proof.Gen.RouterIdeal.Frame
public import proofs.«01_k».proof.Proof.Gen.RouterIdeal.Skeleton
public import proofs.«01_k».proof.Proof.Gen.RouterIdeal.Loops
public import proofs.«01_k».proof.Proof.ExpertOuter
public import Idealize.ShloMosaic.Lib.Exec
public import Idealize.ShloMosaic.Lib.Tactic
public import Idealize.ShloMosaic.Lib.Pipeline.Kit
public import Idealize.ShloMosaic.Lib.Pointwise
public import Idealize.ShloMosaic.Lib.WritesUnit
public import Idealize.ShloMosaic.Lib.VecWindow

@[expose] public section

set_option maxRecDepth 16384

noncomputable section

namespace Cert.Proof.Ro

open Cert.RouterIdeal Cert.RouterIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Where a block sits: rows `8·rc`, columns `8·k`. -/
theorem off4_eq : ∀ k : Fin k0_t2_loop.trips, ∀ rc : Fin 4, k0_off4 k (BitVec.ofNat 32 rc.val) = ![8 * rc.val, 8 * k.val, 0] := by
  decide +kernel
theorem off3_eq : ∀ k : Fin k0_t2_loop.trips, ∀ rc : Fin 4, k0_off3 k (BitVec.ofNat 32 rc.val) = ![8 * rc.val, 8 * k.val, 0] := by
  decide +kernel

section Step

variable (arg9 : Memref sig .tc .vmem S38x224x96 .f32) (M : Memref sig .tc .vmem S32x224x96 .f32) (w : FVec F S7x96 .f32)
  (X9 : BufTy.Contents (Elt F) arg9.view.ty)

/-- The block `rc` of chunk `k` an accumulator holding `f` has replaced. -/
def piece (k : Fin k0_t2_loop.trips) (rc : Fin 4) (f : BufTy.Contents (Elt F) M.view.ty) : View.Piece (Elt F) S32x224x96 .f32 :=
  ⟨Rect.unit (s := S32x224x96) (k0_off4 k (BitVec.ofNat 32 rc.val)) S8x8x96.size (k0_off4_inb k rc),
    Ex.chunk w (arg9.view.readAt (Elt F) (Rect.unit (s := S38x224x96) (k0_off3 k (BitVec.ofNat 32 rc.val)) S14x8x96.size (k0_off3_inb k rc)).toLoadRect X9)
      (M.view.readAt (Elt F) (Rect.unit (s := S32x224x96) (k0_off4 k (BitVec.ofNat 32 rc.val)) S8x8x96.size (k0_off4_inb k rc)).toLoadRect f)⟩

/-- One accumulator after the four blocks of chunk `k` have been replaced. -/
def tripTo (k : Fin k0_t2_loop.trips) (f : BufTy.Contents (Elt F) M.view.ty) : BufTy.Contents (Elt F) M.view.ty :=
  M.view.writes (Elt F) f [piece arg9 M w X9 k 3 f, piece arg9 M w X9 k 2 f, piece arg9 M w X9 k 1 f, piece arg9 M w X9 k 0 f]

theorem read_piece (k : Fin k0_t2_loop.trips) (rc : Fin 4) (f : BufTy.Contents (Elt F) M.view.ty) (L : List (View.Piece (Elt F) S32x224x96 .f32))
    (r : Fin 32) (s : Fin 224) (c : Fin 96) :
    M.view.read (Elt F) (M.view.writes (Elt F) f (piece arg9 M w X9 k rc f :: L)) (ix3 r s c)
      = if (8 * rc.val ≤ r.val ∧ r.val < 8 * rc.val + 8) ∧ (8 * k.val ≤ s.val ∧ s.val < 8 * k.val + 8)
        then Ex.rowAcc w (arg9.view.read (Elt F) X9) (M.view.read (Elt F) f (ix3 r s c)) r s c
        else M.view.read (Elt F) (M.view.writes (Elt F) f L) (ix3 r s c) := by
  unfold piece
  have hk : k.val < 28 := Nat.lt_of_lt_of_le k.isLt k0_t2_abs.2.1
  split_ifs with h
  · obtain ⟨⟨h1, h2⟩, h3, h4⟩ := h
    have hr : r.val - 8 * rc.val < 8 := by omega
    have hs : s.val - 8 * k.val < 8 := by omega
    rw [View.read_writes_cons_unit_of_mem (v := M.view) (f := f) (s := S32x224x96) (inb := k0_off4_inb k rc) (L := L) (y := ix3 r s c)
      (x := (ix3 (⟨_, hr⟩ : Fin 8) (⟨_, hs⟩ : Fin 8) c : S8x8x96.Idx)) (heq := off4_eq k rc)
      (hx := by
        intro a
        match a with
        | ⟨0, _⟩ => show r.val = 8 * rc.val + (r.val - 8 * rc.val); omega
        | ⟨1, _⟩ => show s.val = 8 * k.val + (s.val - 8 * k.val); omega
        | ⟨2, _⟩ => show c.val = 0 + c.val; omega)]
    rw [Ex.chunk_apply]
    unfold Ex.rowAcc
    have e8 := congrFun (off4_eq k rc)
    have e7 := congrFun (off3_eq k rc)
    refine congr (congrArg (fun z => Ex.fma7 z _) (funext fun i => ?_)) ?_
    · refine congrArg (arg9.view.read (Elt F) X9) (funext fun a => Fin.ext ?_)
      match a with
      | ⟨0, _⟩ => show k0_off3 k (BitVec.ofNat 32 rc.val) 0 + 1 * (i.val + (r.val - 8 * rc.val)) = i.val + r.val
                  rw [show k0_off3 k (BitVec.ofNat 32 rc.val) 0 = 8 * rc.val from e7 0]; omega
      | ⟨1, _⟩ => show k0_off3 k (BitVec.ofNat 32 rc.val) 1 + 1 * (s.val - 8 * k.val) = s.val
                  rw [show k0_off3 k (BitVec.ofNat 32 rc.val) 1 = 8 * k.val from e7 1]; omega
      | ⟨2, _⟩ => show k0_off3 k (BitVec.ofNat 32 rc.val) 2 + 1 * c.val = c.val
                  rw [show k0_off3 k (BitVec.ofNat 32 rc.val) 2 = 0 from e7 2]; omega
    · refine congrArg (M.view.read (Elt F) f) (funext fun a => Fin.ext ?_)
      match a with
      | ⟨0, _⟩ => show k0_off4 k (BitVec.ofNat 32 rc.val) 0 + 1 * (r.val - 8 * rc.val) = r.val
                  rw [show k0_off4 k (BitVec.ofNat 32 rc.val) 0 = 8 * rc.val from e8 0]; omega
      | ⟨1, _⟩ => show k0_off4 k (BitVec.ofNat 32 rc.val) 1 + 1 * (s.val - 8 * k.val) = s.val
                  rw [show k0_off4 k (BitVec.ofNat 32 rc.val) 1 = 8 * k.val from e8 1]; omega
      | ⟨2, _⟩ => show k0_off4 k (BitVec.ofNat 32 rc.val) 2 + 1 * c.val = c.val
                  rw [show k0_off4 k (BitVec.ofNat 32 rc.val) 2 = 0 from e8 2]; omega
  · rw [View.read_writes_cons_unit (v := M.view) (f := f) (s := S32x224x96) (heq := off4_eq k rc), dif_neg]
    intro hall
    have h0 : 8 * rc.val ≤ r.val ∧ r.val < 8 * rc.val + 8 := hall 0
    have h1 : 8 * k.val ≤ s.val ∧ s.val < 8 * k.val + 8 := hall 1
    exact h ⟨h0, h1⟩

/-- A trip read at an index: inside the chunk's columns the seven multiply-adds, elsewhere nothing changed. -/
theorem read_tripTo (k : Fin k0_t2_loop.trips) (f : BufTy.Contents (Elt F) M.view.ty) (r : Fin 32) (s : Fin 224) (c : Fin 96) :
    M.view.read (Elt F) (tripTo arg9 M w X9 k f) (ix3 r s c)
      = if 8 * k.val ≤ s.val ∧ s.val < 8 * k.val + 8
        then Ex.rowAcc w (arg9.view.read (Elt F) X9) (M.view.read (Elt F) f (ix3 r s c)) r s c
        else M.view.read (Elt F) f (ix3 r s c) := by
  unfold tripTo
  have hr : r.val < 32 := r.isLt
  have v0 : (0 : Fin 4).val = 0 := rfl
  have v1 : (1 : Fin 4).val = 1 := rfl
  have v2 : (2 : Fin 4).val = 2 := rfl
  have v3 : (3 : Fin 4).val = 3 := rfl
  rw [read_piece, read_piece, read_piece, read_piece, View.writes_nil, v0, v1, v2, v3]
  split_ifs <;> first | rfl | (exfalso; omega)

end Step

variable (i : grid0.Coords)
  (arg2 : Memref sig .tc .vmem S1x38x230x96 .f32) (harg2 : arg2.IsWhole)
  (arg3 : Memref sig .tc .vmem S7x7x96 .f32) (harg3 : arg3.IsWhole)
  (arg4 : Memref sig .tc .vmem S1x7168x8 .f32) (harg4 : arg4.IsWhole)
  (arg5 : Memref sig .tc .smem S1x1 .f32) (harg5 : arg5.IsWhole)
  (arg6 : Memref sig .tc .vmem S2x16 .i32) (harg6 : arg6.IsWhole)
  (arg7 : Memref sig .tc .vmem S1x1 .f32) (harg7 : arg7.IsWhole)
  (arg8 : Memref sig .tc .vmem S2x16 .f32) (harg8 : arg8.IsWhole)
  (arg9 : Memref sig .tc .vmem S38x224x96 .f32) (harg9 : arg9.IsWhole)
  (arg10 : Memref sig .tc .vmem S32x224x96 .f32) (harg10 : arg10.IsWhole)

/-- What one trip works on: the slab at its contents, the accumulator at its own. -/
abbrev Bufs (c : Dev nD) (b9 : Memref sig .tc .vmem S38x224x96 .f32) (b10 : Memref sig .tc .vmem S32x224x96 .f32)
    (X9 : BufTy.Contents (Elt F) b9.view.ty) (g10 : BufTy.Contents (Elt F) b10.view.ty) : sProp 𝕄 :=
  iprop((b9.view.loc (c : Thread nD τ) ↦[b9.view.set]{fullShare} X9) ∗ (b10.view.loc (c : Thread nD τ) ↦[b10.view.set]{fullShare} g10))

/-- One trip of the inner loop, run: the accumulator has its four blocks replaced, the slab is as it was. -/
theorem trip (c : Dev nD) (E : Set ℕ) (v49 : Vec F S1x7x96 .f32) (k : Fin k0_t2_loop.trips)
    (X9 : BufTy.Contents (Elt F) arg9.view.ty) (g : BufTy.Contents (Elt F) arg10.view.ty) :
    Bufs (F := F) c arg9 arg10 X9 g
      ⊢ wp frame (wpE (defs₀ (F := F)) Ex.𝒱₀ (c : Thread nD τ) none) E (k0_t2_body (F := F) i arg2 harg2 arg3 harg3 arg4 harg4 arg5 harg5 arg6 harg6 arg7 harg7 arg8 harg8 arg9 harg9 arg10 harg10 v49 k PUnit.unit)
          (fun _ => Bufs (F := F) c arg9 arg10 X9 (tripTo arg9 arg10 (k0_pay29 v49) X9 k g)) := by
  have hk : k.val < 28 := Nat.lt_of_lt_of_le k.isLt k0_t2_abs.2.1
  unfold k0_t2_body
  iintro ⟨H9, H10⟩
  sl_exec
  sl_step
  isplitl [H9]; · iexact H9
  iexact H10

end Cert.Proof.Ro

end
-- ==== Proof.RouteOuter.lean ====
/-
  The two loops of the router kernel by their invariants. Inner: after `k` chunks the accumulator's first `8·k`
  columns have taken the seven multiply-adds. Outer: after `n` column offsets the accumulator holds the partial
  convolution over those offsets.
-/
module

public import Idealize.ShloMosaic.Lib.WholeRead
public import proofs.«01_k».proof.Proof.Gen.RouterIdeal.Frame
public import proofs.«01_k».proof.Proof.Gen.RouterIdeal.Skeleton
public import proofs.«01_k».proof.Proof.Gen.RouterIdeal.Loops
public import proofs.«01_k».proof.Proof.RouteInner
public import Idealize.ShloMosaic.Lib.Exec
public import Idealize.ShloMosaic.Lib.Tactic
public import Idealize.ShloMosaic.Lib.Pipeline.Kit
public import Idealize.ShloMosaic.Lib.Pointwise
public import Idealize.ShloMosaic.Lib.WritesUnit
public import Idealize.ShloMosaic.Lib.VecWindow

@[expose] public section

set_option maxRecDepth 16384

noncomputable section

namespace Cert.Proof.Ro

open Cert.RouterIdeal Cert.RouterIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem read_trip_cols (arg9 : Memref sig .tc .vmem S38x224x96 .f32) (M : Memref sig .tc .vmem S32x224x96 .f32) (w : FVec F S7x96 .f32)
    (X9 : BufTy.Contents (Elt F) arg9.view.ty) (G : FVec F S32x224x96 .f32) (k : Fin k0_t2_loop.trips) (f : BufTy.Contents (Elt F) M.view.ty)
    (h : M.view.read (Elt F) f = Ex.cols w (arg9.view.read (Elt F) X9) G k.val) :
    M.view.read (Elt F) (tripTo arg9 M w X9 k f) = Ex.cols w (arg9.view.read (Elt F) X9) G (k.val + 1) := by
  funext y
  idx_vars y
  rw [read_tripTo, h]
  rfl

variable (i : grid0.Coords)
  (arg2 : Memref sig .tc .vmem S1x38x230x96 .f32) (harg2 : arg2.IsWhole)
  (arg3 : Memref sig .tc .vmem S7x7x96 .f32) (harg3 : arg3.IsWhole)
  (arg4 : Memref sig .tc .vmem S1x7168x8 .f32) (harg4 : arg4.IsWhole)
  (arg5 : Memref sig .tc .smem S1x1 .f32) (harg5 : arg5.IsWhole)
  (arg6 : Memref sig .tc .vmem S2x16 .i32) (harg6 : arg6.IsWhole)
  (arg7 : Memref sig .tc .vmem S1x1 .f32) (harg7 : arg7.IsWhole)
  (arg8 : Memref sig .tc .vmem S2x16 .f32) (harg8 : arg8.IsWhole)
  (arg9 : Memref sig .tc .vmem S38x224x96 .f32) (harg9 : arg9.IsWhole)
  (arg10 : Memref sig .tc .vmem S32x224x96 .f32) (harg10 : arg10.IsWhole)

set_option warn.classDefReducibility false in
/-- The inner loop by its invariant. -/
@[sl_loop] def innerInv (c : Dev nD) (E : Set ℕ) (v49 : Vec F S1x7x96 .f32)
    (X9 : BufTy.Contents (Elt F) arg9.view.ty) (G : BufTy.Contents (Elt F) arg10.view.ty) :
    LoopInvTy_k0_t2 (F := F) Unit ℕ (UR sig nD τ) ℕ Ex.𝒱₀ c none E i arg2 harg2 arg3 harg3 arg4 harg4 arg5 harg5 arg6 harg6 arg7 harg7 arg8 harg8 arg9 harg9 arg10 harg10 v49 where
  inv k _ := iprop((arg9.view.loc (c : Thread nD τ) ↦[arg9.view.set]{fullShare} X9)
      ∗ (∃ f, (arg10.view.loc (c : Thread nD τ) ↦[arg10.view.set]{fullShare} f) ∗ ⌜arg10.view.read (Elt F) f = Ex.cols (k0_pay29 v49) (arg9.view.read (Elt F) X9) (arg10.view.read (Elt F) G) k⌝))
  step k acc := by
    iintro ⟨H9, ⟨%f10, H10, %h10⟩⟩
    iapply (wp_wand_r Idealize.ShloMosaic.frame (wpE (defs₀ (F := F)) Ex.𝒱₀ (c : Thread nD τ) none) E)
    isplitl [H9 H10]
    · iapply (trip (F := F) i arg2 harg2 arg3 harg3 arg4 harg4 arg5 harg5 arg6 harg6 arg7 harg7 arg8 harg8 arg9 harg9 arg10 harg10 c E v49 k X9 f10)
      isplitl [H9]; · iexact H9
      iexact H10
    · iintro %_ ⟨H9, H10⟩
      isplitl [H9]; · iexact H9
      iexists _; isplitl [H10]; · iexact H10
      ipureintro; exact read_trip_cols _ _ _ _ _ k f10 h10

theorem off1_eq : ∀ j : Fin k0_t1_loop.trips, k0_off1 j = ![0, 0, j.val, 0] := by decide +kernel
theorem off2_eq : ∀ j : Fin k0_t1_loop.trips, k0_off2 j = ![j.val, 0, 0] := by decide +kernel

/-- A memref's buffer on core `c`, held on the memref's elements at `f`. -/
abbrev pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- The slab the kernel copies: the window block's columns shifted by the offset. -/
theorem slab_apply (x : FVec F S1x38x230x96 .f32) (j : Fin k0_t1_loop.trips) (hj : j.val < 7) (f9 : BufTy.Contents (Elt F) arg9.view.ty) (L : List (View.Piece (Elt F) S38x224x96 .f32))
    (r : Fin 38) (s : Fin 224) (c : Fin 96) :
    arg9.view.read (Elt F) (arg9.view.writes (Elt F) f9
      (⟨Rect.unit (s := S38x224x96) ![0, 0, 0] S38x224x96.size inb_S38x224x96_S38x224x96_0_0_0,
        k0_pay28 (arg2.view.readAt (Elt F) (Rect.unit (s := S1x38x230x96) (k0_off1 j) S1x38x224x96.size (k0_off1_inb j)).toLoadRect (harg2.unread x))⟩ :: L))
      (ix3 r s c) = x (ix4 (0 : Fin 1) r (⟨j.val + s.val, by omega⟩ : Fin 230) c) := by
  rw [View.read_writes_full]
  pointwise [k0_pay28]
  rw [harg2.readAt_unread]
  refine congrArg x (funext fun a => Fin.ext ?_)
  have e := congrFun (off1_eq j)
  match a with
  | ⟨0, _⟩ => show k0_off1 j 0 + 1 * 0 = 0
              rw [show k0_off1 j 0 = 0 from e 0]
  | ⟨1, _⟩ => show k0_off1 j 1 + 1 * r.val = r.val
              rw [show k0_off1 j 1 = 0 from e 1]; omega
  | ⟨2, _⟩ => show k0_off1 j 2 + 1 * s.val = j.val + s.val
              rw [show k0_off1 j 2 = j.val from e 2]; omega
  | ⟨3, _⟩ => show k0_off1 j 3 + 1 * c.val = c.val
              rw [show k0_off1 j 3 = 0 from e 3]; omega

/-- The seven rows of the filter at a column offset. -/
theorem srow_apply (ws : FVec F S7x7x96 .f32) (j : Fin k0_t1_loop.trips) (hj : j.val < 7) (t : Fin 7) (c : Fin 96) :
    k0_pay29 (arg3.view.readAt (Elt F) (Rect.unit (s := S7x7x96) (k0_off2 j) S1x7x96.size (k0_off2_inb j)).toLoadRect (harg3.unread ws)) (ix2 t c)
      = ws (ix3 (⟨j.val, hj⟩ : Fin 7) t c) := by
  pointwise [k0_pay29]
  rw [harg3.readAt_unread]
  refine congrArg ws (funext fun a => Fin.ext ?_)
  have e := congrFun (off2_eq j)
  match a with
  | ⟨0, _⟩ => show k0_off2 j 0 + 1 * 0 = j.val
              rw [show k0_off2 j 0 = j.val from e 0]; omega
  | ⟨1, _⟩ => show k0_off2 j 1 + 1 * t.val = t.val
              rw [show k0_off2 j 1 = 0 from e 1]; omega
  | ⟨2, _⟩ => show k0_off2 j 2 + 1 * c.val = c.val
              rw [show k0_off2 j 2 = 0 from e 2]; omega

theorem trips1 : k0_t1_loop.trips = 7 := by decide +kernel
theorem trips2 : Scf.trips k0_t2_loop.lb k0_t2_loop.ub k0_t2_loop.st = 28 := by decide +kernel

set_option warn.classDefReducibility false in
/-- The outer loop by its invariant: the staged blocks as they are, the slab at anything, the accumulator at the
    partial convolution over the offsets walked so far. -/
@[sl_loop] def outerInv (c : Dev nD) (E : Set ℕ) (x : FVec F S1x38x230x96 .f32) (ws : FVec F S7x7x96 .f32) :
    LoopInvTy_k0_t1 (F := F) Unit ℕ (UR sig nD τ) ℕ Ex.𝒱₀ c none E i arg2 harg2 arg3 harg3 arg4 harg4 arg5 harg5 arg6 harg6 arg7 harg7 arg8 harg8 arg9 harg9 arg10 harg10 where
  inv n _ := iprop(pt c arg2 (harg2.unread x) ∗ pt c arg3 (harg3.unread ws) ∗ (∃ f, pt c arg9 f)
      ∗ (∃ f, pt c arg10 f ∗ ⌜arg10.view.read (Elt F) f = Ex.conv x ws n⌝))
  step j acc := by
    have hj : j.val < 7 := trips1 ▸ j.isLt
    unfold k0_t1_body
    iintro ⟨H2, H3, ⟨%f9, H9⟩, ⟨%f10, H10, %h10⟩⟩
    sl_exec
    sl_step
    have e10 := hL2.trans ((by rw [trips2, h10]; rfl : _ = Ex.cols _ _ (Ex.conv x ws j.val) 28).trans
      (Ex.conv_step x _ j.val hj _ _ (srow_apply arg3 harg3 ws j hj) (slab_apply arg2 harg2 arg9 x j hj _ [])))
    isplitl [H2]; · iexact H2
    isplitl [H3]; · iexact H3
    isplitl [H9]; · iexists _; iexact H9
    iexists _; isplitl [H10]; · iexact H10
    ipureintro; exact e10

end Cert.Proof.Ro

end
-- ==== Proof.RouteBody.lean ====
/-
  The router kernel's body run once, in its three cases: the first grid point fills the logits before adding to them,
  the last one writes the outputs from them, and the points between only add.
-/
module

public import Idealize.ShloMosaic.Lib.WholeRead
public import proofs.«01_k».proof.Proof.Gen.RouterIdeal.Frame
public import proofs.«01_k».proof.Proof.Gen.RouterIdeal.Skeleton
public import proofs.«01_k».proof.Proof.Gen.RouterIdeal.Loops
public import proofs.«01_k».proof.Proof.RouteOuter
public import Idealize.ShloMosaic.Lib.Exec
public import Idealize.ShloMosaic.Lib.Tactic
public import Idealize.ShloMosaic.Lib.Pipeline.Kit
public import Idealize.ShloMosaic.Lib.Pointwise
public import Idealize.ShloMosaic.Lib.WritesUnit
public import Idealize.ShloMosaic.Lib.VecWindow

@[expose] public section

set_option maxRecDepth 16384

noncomputable section

namespace Cert.Proof.Ro

open Cert.RouterIdeal Cert.RouterIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (i : grid0.Coords)
  (arg2 : Memref sig .tc .vmem S1x38x230x96 .f32) (harg2 : arg2.IsWhole)
  (arg3 : Memref sig .tc .vmem S7x7x96 .f32) (harg3 : arg3.IsWhole)
  (arg4 : Memref sig .tc .vmem S1x7168x8 .f32) (harg4 : arg4.IsWhole)
  (arg5 : Memref sig .tc .smem S1x1 .f32) (harg5 : arg5.IsWhole)
  (arg6 : Memref sig .tc .vmem S2x16 .i32) (harg6 : arg6.IsWhole)
  (arg7 : Memref sig .tc .vmem S1x1 .f32) (harg7 : arg7.IsWhole)
  (arg8 : Memref sig .tc .vmem S2x16 .f32) (harg8 : arg8.IsWhole)
  (arg9 : Memref sig .tc .vmem S38x224x96 .f32) (harg9 : arg9.IsWhole)
  (arg10 : Memref sig .tc .vmem S32x224x96 .f32) (harg10 : arg10.IsWhole)

/-- Whether the point is the grid's first, as the kernel computes it. -/
def first (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The column numbers. -/
def lanes : IVec S2x16 32 := iota .tc S2x16 32 [1] iota_S2x16_d1_w32

/-- The logits after a point, from the logits before it and the staged blocks. -/
def step (i : grid0.Coords) (old : FVec F S2x16 .f32) (x : FVec F S1x38x230x96 .f32) (ws : FVec F S7x7x96 .f32) (g : FVec F S1x7168x8 .f32)
    (rb : FVec F S1x1 .f32) : FVec F S2x16 .f32 :=
  k0_pay1 (k0_pay32 (Ex.conv x ws 7) g (rb (ix2 (0 : Fin 1) (0 : Fin 1)))) (if first i = 1#1 then k0_pay31 else old) (k0_pay33 i) (Scalar.ofBits .f32 0x00000000#32)

/-- The chosen indices, from the logits. -/
def top (l : FVec F S2x16 .f32) : IVec S2x16 32 :=
  k0_pay22 (k0_pay15 lanes l) (k0_pay18 lanes l) (k0_pay20 lanes) (k0_pay21 lanes)

/-- The balance loss, from the logits. -/
def bal (l : FVec F S2x16 .f32) : FVec F S1x1 .f32 :=
  k0_pay2 (k0_pay23 (k0_pay19 lanes l)) (k0_pay24 lanes (k0_pay19 lanes l)) (k0_pay25 (k0_pay19 lanes l)) (k0_pay26 lanes) 8#32

/-- An accumulator just zeroed reads as the partial convolution over no offset. -/
theorem zero_read (A : Memref sig .tc .vmem S32x224x96 .f32) (x : FVec F S1x38x230x96 .f32) (W : FVec F S7x7x96 .f32) (z : FVec F S32x224x96 .f32)
    (hz : z = k0_pay27) :
    A.view.read (Elt F) (A.view.writes (Elt F) A.view.junk
      [⟨Rect.unit (s := S32x224x96) ![0, 0, 0] S32x224x96.size inb_S32x224x96_S32x224x96_0_0_0, z⟩]) = Ex.conv x W 0  := by
  rw [View.read_writes_full, hz]; rfl

attribute [local irreducible] Ex.conv

theorem trips1' : Scf.trips k0_t1_loop.lb k0_t1_loop.ub k0_t1_loop.st = 7 := trips1

set_option maxHeartbeats 4000000 in
/-- THE BODY at the first point: the logits filled, then added to; the outputs as they were. -/
theorem body_first (c : Dev nD) (E : Set ℕ) (K : PUnit → sProp 𝕄) (x : FVec F S1x38x230x96 .f32) (ws : FVec F S7x7x96 .f32) (g : FVec F S1x7168x8 .f32)
    (rb : FVec F S1x1 .f32) (old : FVec F S2x16 .f32) (d6 : IVec S2x16 32) (d7 : FVec F S1x1 .f32) (h1 : first i = 1#1) (h2 : ¬ k0_cond2 i = 1#1) :
    iprop(owns (c : Thread nD τ) arg2 fullShare x ∗ owns (c : Thread nD τ) arg3 fullShare ws ∗ owns (c : Thread nD τ) arg4 fullShare g
        ∗ owns (c : Thread nD τ) arg5 fullShare rb ∗ owns (c : Thread nD τ) arg6 fullShare (d6 : Vec F S2x16 .i32) ∗ owns (c : Thread nD τ) arg7 fullShare d7
        ∗ owns (c : Thread nD τ) arg8 fullShare old ∗ (∃ d, owns (c : Thread nD τ) arg9 fullShare d) ∗ (∃ d, owns (c : Thread nD τ) arg10 fullShare d)
        ∗ (iprop(owns (c : Thread nD τ) arg2 fullShare x ∗ owns (c : Thread nD τ) arg3 fullShare ws ∗ owns (c : Thread nD τ) arg4 fullShare g
          ∗ owns (c : Thread nD τ) arg5 fullShare rb ∗ owns (c : Thread nD τ) arg6 fullShare (d6 : Vec F S2x16 .i32)
          ∗ owns (c : Thread nD τ) arg7 fullShare (d7)
          ∗ owns (c : Thread nD τ) arg8 fullShare (step i old x ws g rb) ∗ (∃ d, owns (c : Thread nD τ) arg9 fullShare d) ∗ (∃ d, owns (c : Thread nD τ) arg10 fullShare d)) -∗ K ⟨⟩))
      ⊢ wp frame (wpE (defs₀ (F := F)) Ex.𝒱₀ (c : Thread nD τ) none) E (cc0__router_body (F := F) i arg2 harg2 arg3 harg3 arg4 harg4 arg5 harg5 arg6 harg6 arg7 harg7 arg8 harg8 arg9 harg9 arg10 harg10) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  clear hf2 hf3 hf4 hf5 hf6 hf7 hf8
  have z10 := zero_read arg10 x ws k0_pay27 rfl
  sl_unfold [cc0__router_body]
  sl_exec!
  rw [trips1'] at hL4
  sl_step
  have l10 := (View.readAt_full arg10.view fL1 inb_S32x224x96_S32x224x96_0_0_0).trans hL4
  have l4 := (View.readAt_full arg4.view _ inb_S1x7168x8_S1x7168x8_0_0_0).trans (harg4.read_unread (Val := Elt F) g)

  have l5 : body_first.sl.r arg5 harg5 c rb = rb (ix2 (0 : Fin 1) (0 : Fin 1)) :=
    (harg5.readAt_unread _ _ _).trans (congrArg rb (funext fun a => Fin.ext (by match a with | ⟨0, _⟩ => rfl | ⟨1, _⟩ => rfl)))
  have e8 : k0_pay1 (body_first.sl.r_1 arg4 harg4 arg5 harg5 arg10 c g rb fL1) (body_first.sl.v26 arg8 c) (k0_pay33 i) body_first.sl.cst_20 = step i old x ws g rb := by
    unfold body_first.sl.r_1 body_first.sl.v26 body_first.sl.cst_20 step
    rw [if_pos h1, l10, l4, l5]
    refine congrArg (fun o => k0_pay1 _ o _ _) ?_
    exact View.readCov_full _ _ _ _ _
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact (View.read_writes_full _ _ _ _ _).trans e8
  isplitl [H9]
  · iexists _, _; isplitr; swap; · iexact H9
    ipureintro; rfl
  iexists _, _; isplitr; swap; · iexact H10
  ipureintro; rfl

set_option maxHeartbeats 4000000 in
/-- THE BODY at a point neither first nor last: the logits added to; the outputs as they were. -/
theorem body_mid (c : Dev nD) (E : Set ℕ) (K : PUnit → sProp 𝕄) (x : FVec F S1x38x230x96 .f32) (ws : FVec F S7x7x96 .f32) (g : FVec F S1x7168x8 .f32)
    (rb : FVec F S1x1 .f32) (old : FVec F S2x16 .f32) (d6 : IVec S2x16 32) (d7 : FVec F S1x1 .f32) (h1 : ¬ first i = 1#1) (h2 : ¬ k0_cond2 i = 1#1) :
    iprop(owns (c : Thread nD τ) arg2 fullShare x ∗ owns (c : Thread nD τ) arg3 fullShare ws ∗ owns (c : Thread nD τ) arg4 fullShare g
        ∗ owns (c : Thread nD τ) arg5 fullShare rb ∗ owns (c : Thread nD τ) arg6 fullShare (d6 : Vec F S2x16 .i32) ∗ owns (c : Thread nD τ) arg7 fullShare d7
        ∗ owns (c : Thread nD τ) arg8 fullShare old ∗ (∃ d, owns (c : Thread nD τ) arg9 fullShare d) ∗ (∃ d, owns (c : Thread nD τ) arg10 fullShare d)
        ∗ (iprop(owns (c : Thread nD τ) arg2 fullShare x ∗ owns (c : Thread nD τ) arg3 fullShare ws ∗ owns (c : Thread nD τ) arg4 fullShare g
          ∗ owns (c : Thread nD τ) arg5 fullShare rb ∗ owns (c : Thread nD τ) arg6 fullShare (d6 : Vec F S2x16 .i32)
          ∗ owns (c : Thread nD τ) arg7 fullShare (d7)
          ∗ owns (c : Thread nD τ) arg8 fullShare (step i old x ws g rb) ∗ (∃ d, owns (c : Thread nD τ) arg9 fullShare d) ∗ (∃ d, owns (c : Thread nD τ) arg10 fullShare d)) -∗ K ⟨⟩))
      ⊢ wp frame (wpE (defs₀ (F := F)) Ex.𝒱₀ (c : Thread nD τ) none) E (cc0__router_body (F := F) i arg2 harg2 arg3 harg3 arg4 harg4 arg5 harg5 arg6 harg6 arg7 harg7 arg8 harg8 arg9 harg9 arg10 harg10) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  clear hf2 hf3 hf4 hf5 hf6 hf7 hf8
  have z10 := zero_read arg10 x ws k0_pay27 rfl
  sl_unfold [cc0__router_body]
  sl_exec!
  rw [trips1'] at hL4
  sl_step
  have l10 := (View.readAt_full arg10.view fL1 inb_S32x224x96_S32x224x96_0_0_0).trans hL4
  have l4 := (View.readAt_full arg4.view _ inb_S1x7168x8_S1x7168x8_0_0_0).trans (harg4.read_unread (Val := Elt F) g)
  have l8 := (View.readAt_full arg8.view _ inb_S2x16_S2x16_0_0).trans (harg8.read_unread (Val := Elt F) old)
  have l5 : body_mid.sl.r arg5 harg5 c rb = rb (ix2 (0 : Fin 1) (0 : Fin 1)) :=
    (harg5.readAt_unread _ _ _).trans (congrArg rb (funext fun a => Fin.ext (by match a with | ⟨0, _⟩ => rfl | ⟨1, _⟩ => rfl)))
  have e8 : k0_pay1 (body_mid.sl.r_1 arg4 harg4 arg5 harg5 arg10 c g rb fL1) (body_mid.sl.r_2 arg8 harg8 c old) (k0_pay33 i) body_mid.sl.cst_20 = step i old x ws g rb := by
    unfold body_mid.sl.r_1 body_mid.sl.r_2 body_mid.sl.cst_20 step
    rw [if_neg h1, l10, l4, l5]
    rw [l8]

  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    exact harg6.read_unread _
  isplitl [H7]
  · iexists _; isplitr; swap; · iexact H7
    ipureintro
    exact harg7.read_unread _
  isplitl [H8]
  · iexists _; isplitr; swap; · iexact H8
    ipureintro
    exact (View.read_writes_full _ _ _ _ _).trans e8
  isplitl [H9]
  · iexists _, _; isplitr; swap; · iexact H9
    ipureintro; rfl
  iexists _, _; isplitr; swap; · iexact H10
  ipureintro; rfl

set_option maxHeartbeats 4000000 in
/-- THE BODY at the last point: the logits added to, then the outputs written from them. -/
theorem body_last (c : Dev nD) (E : Set ℕ) (K : PUnit → sProp 𝕄) (x : FVec F S1x38x230x96 .f32) (ws : FVec F S7x7x96 .f32) (g : FVec F S1x7168x8 .f32)
    (rb : FVec F S1x1 .f32) (old : FVec F S2x16 .f32) (d6 : IVec S2x16 32) (d7 : FVec F S1x1 .f32) (h1 : ¬ first i = 1#1) (h2 : k0_cond2 i = 1#1) :
    iprop(owns (c : Thread nD τ) arg2 fullShare x ∗ owns (c : Thread nD τ) arg3 fullShare ws ∗ owns (c : Thread nD τ) arg4 fullShare g
        ∗ owns (c : Thread nD τ) arg5 fullShare rb ∗ owns (c : Thread nD τ) arg6 fullShare (d6 : Vec F S2x16 .i32) ∗ owns (c : Thread nD τ) arg7 fullShare d7
        ∗ owns (c : Thread nD τ) arg8 fullShare old ∗ (∃ d, owns (c : Thread nD τ) arg9 fullShare d) ∗ (∃ d, owns (c : Thread nD τ) arg10 fullShare d)
        ∗ (iprop(owns (c : Thread nD τ) arg2 fullShare x ∗ owns (c : Thread nD τ) arg3 fullShare ws ∗ owns (c : Thread nD τ) arg4 fullShare g
          ∗ owns (c : Thread nD τ) arg5 fullShare rb ∗ owns (c : Thread nD τ) arg6 fullShare (top (step i old x ws g rb) : Vec F S2x16 .i32)
          ∗ owns (c : Thread nD τ) arg7 fullShare (bal (step i old x ws g rb))
          ∗ owns (c : Thread nD τ) arg8 fullShare (step i old x ws g rb) ∗ (∃ d, owns (c : Thread nD τ) arg9 fullShare d) ∗ (∃ d, owns (c : Thread nD τ) arg10 fullShare d)) -∗ K ⟨⟩))
      ⊢ wp frame (wpE (defs₀ (F := F)) Ex.𝒱₀ (c : Thread nD τ) none) E (cc0__router_body (F := F) i arg2 harg2 arg3 harg3 arg4 harg4 arg5 harg5 arg6 harg6 arg7 harg7 arg8 harg8 arg9 harg9 arg10 harg10) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%d9, %f9, -, H9⟩, ⟨%d10, %f10, -, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  clear hf2 hf3 hf4 hf5 hf6 hf7 hf8
  have z10 := zero_read arg10 x ws k0_pay27 rfl
  sl_unfold [cc0__router_body]
  sl_exec!
  rw [trips1'] at hL4
  sl_step
  have l10 := (View.readAt_full arg10.view fL1 inb_S32x224x96_S32x224x96_0_0_0).trans hL4
  have l4 := (View.readAt_full arg4.view _ inb_S1x7168x8_S1x7168x8_0_0_0).trans (harg4.read_unread (Val := Elt F) g)
  have l8 := (View.readAt_full arg8.view _ inb_S2x16_S2x16_0_0).trans (harg8.read_unread (Val := Elt F) old)
  have l5 : body_last.sl.r arg5 harg5 c rb = rb (ix2 (0 : Fin 1) (0 : Fin 1)) :=
    (harg5.readAt_unread _ _ _).trans (congrArg rb (funext fun a => Fin.ext (by match a with | ⟨0, _⟩ => rfl | ⟨1, _⟩ => rfl)))
  have e8 : k0_pay1 (body_last.sl.r_1 arg4 harg4 arg5 harg5 arg10 c g rb fL1) (body_last.sl.r_2 arg8 harg8 c old) (k0_pay33 i) body_last.sl.cst_20 = step i old x ws g rb := by
    unfold body_last.sl.r_1 body_last.sl.r_2 body_last.sl.cst_20 step
    rw [if_neg h1, l10, l4, l5]
    rw [l8]

  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    refine (View.read_writes_full _ _ _ _ _).trans ?_; exact congrArg top ((View.readCov_full _ _ _ _ _).trans e8)
  isplitl [H7]
  · iexists _; isplitr; swap; · iexact H7
    ipureintro
    refine (View.read_writes_full _ _ _ _ _).trans ?_; exact congrArg bal ((View.readCov_full _ _ _ _ _).trans e8)
  isplitl [H8]
  · iexists _; isplitr; swap; · iexact H8
    ipureintro
    exact (View.read_writes_full _ _ _ _ _).trans e8
  isplitl [H9]
  · iexists _, _; isplitr; swap; · iexact H9
    ipureintro; rfl
  iexists _, _; isplitr; swap; · iexact H10
  ipureintro; rfl

end Cert.Proof.Ro

end
-- ==== Proof.RouteRun.lean ====
/-
  The router call run whole: the logits carried in a scratch buffer from point to point, the two outputs written at
  the last one.
-/
module

public import Idealize.ShloMosaic.Lib.WholeRead
public import proofs.«01_k».proof.Proof.Gen.RouterIdeal.Frame
public import proofs.«01_k».proof.Proof.Gen.RouterIdeal.Skeleton
public import proofs.«01_k».proof.Proof.Gen.RouterIdeal.Loops
public import proofs.«01_k».proof.Proof.RouteBody
public import Idealize.ShloMosaic.Lib.Exec
public import Idealize.ShloMosaic.Lib.Tactic
public import Idealize.ShloMosaic.Lib.Pipeline.Kit
public import Idealize.ShloMosaic.Lib.Pointwise
public import Idealize.ShloMosaic.Lib.WritesUnit
public import Idealize.ShloMosaic.Lib.VecWindow

@[expose] public section

set_option maxRecDepth 16384

noncomputable section

namespace Cert.Proof.Ro

open Cert.RouterIdeal Cert.RouterIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

open Idealize.ShloMosaic.Pipeline (Dat Cfg Window BodyObligation cellOf ΦA)

variable (m : (ℓ : Loc nD τ sig) → Buf (Elt F) ℓ) (ρ : Dev nD → PrngReg)

/-- The logits after `n` grid points (before the first, the fill the first point starts from). -/
def lg (c : Dev nD) : ℕ → FVec F S2x16 .f32
  | 0 => k0_pay31
  | n + 1 => if h : n < cfg0.N then
      step (grid0.coords ⟨n, h⟩) (lg c n) (iblk m c 0 ⟨n, h⟩) (iblk m c 1 ⟨n, h⟩) (iblk m c 2 ⟨n, h⟩) (iblk m c 3 ⟨n, h⟩)
    else lg c n

theorem lg_succ (c : Dev nD) (t : Fin cfg0.N) : lg m c (t.val + 1)
    = step (grid0.coords t) (lg m c t.val) (iblk m c 0 t) (iblk m c 1 t) (iblk m c 2 t) (iblk m c 3 t) := dif_pos t.isLt

/-- Between points: the logits' buffer at the logits so far (at anything before the first point), the other scratch
    buffers and the generator register at anything. -/
def S (c : Dev nD) (n : ℕ) : sProp 𝕄 :=
  iprop(((∃ d, ⌜n ≠ 0 → d = lg m c n⌝ ∗ owns (c : Thread nD τ) (Memref.whole cc0_scratch0) fullShare d)
      ∗ (∃ d, owns (c : Thread nD τ) (Memref.whole cc0_scratch1) fullShare d) ∗ (∃ d, owns (c : Thread nD τ) (Memref.whole cc0_scratch2) fullShare d))
    ∗ (∃ r, prngReg c r))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => top (lg m c (t.val + 1))
    | ⟨5, _⟩ => bal (lg m c (t.val + 1))
  Φ t := S m c t.val
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = top (lg m c (t.val + 1)) := by dsimp only [dats]
theorem after_5 (c : Dev nD) (t : Fin cfg0.N) : (dats m 0 c).after 5 t = bal (lg m c (t.val + 1)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The invariant the launch hands over, opened. -/
theorem inv_open (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d))
      ∗ (∃ r, prngReg c r)) := by
  unfold Pipeline.ΦA
  rw [scopedRest0_eq]; simp only [owns_whole]; try rfl

theorem inv_in (c : Dev nD) : (Pipeline.ΦA spec0 c : sProp 𝕄) ⊢ S m c 0 := by
  rw [inv_open]; unfold S
  iintro ⟨⟨⟨%d, S0⟩, S1, S2⟩, HR⟩
  isplitl [S0 S1 S2]
  · isplitl [S0]
    · iexists d; isplitr; · ipureintro; exact fun h => absurd rfl h
      iexact S0
    isplitl [S1]; · iexact S1
    iexact S2
  iexact HR

theorem inv_out (c : Dev nD) (n : ℕ) : S m c n ⊢ (Pipeline.ΦA spec0 c : sProp 𝕄) := by
  rw [inv_open]; unfold S
  iintro ⟨⟨⟨%d, -, S0⟩, S1, S2⟩, HR⟩
  isplitl [S0 S1 S2]
  · isplitl [S0]; · iexists d; iexact S0
    isplitl [S1]; · iexact S1
    iexact S2
  iexact HR

theorem first_at : ∀ t : Fin cfg0.N, first (grid0.coords t) = 1#1 ↔ t.val = 0 := by decide +kernel
theorem last_at : ∀ t : Fin cfg0.N, k0_cond2 (grid0.coords t) = 1#1 ↔ t.val = 13 := by decide +kernel
theorem idle_at : ∀ t : Fin cfg0.N, t.val ≠ 13 → (idle0 4 (grid0.coords t) = true ∧ (cfg0.win 4).flush t = false)
    ∧ (idle0 5 (grid0.coords t) = true ∧ (cfg0.win 5).flush t = false) := by decide +kernel
theorem live_at : ∀ t : Fin cfg0.N, t.val = 13 → idle0 4 (grid0.coords t) = false ∧ idle0 5 (grid0.coords t) = false := by decide +kernel

/-- At the first point the logits before it do not matter. -/
theorem step_first (i : grid0.Coords) (h : first i = 1#1) (o o' : FVec F S2x16 .f32) (x : FVec F S1x38x230x96 .f32) (ws : FVec F S7x7x96 .f32) (g : FVec F S1x7168x8 .f32)
    (rb : FVec F S1x1 .f32) : step i o x ws g rb = step i o' x ws g rb := by
  unfold step; rw [if_pos h, if_pos h]

/-- The body's obligation at every grid point. -/
theorem body_obligation (c : Dev nD) : BodyObligation (dats (F := F) m 0 c) (defs₀ (F := F)) Ex.𝒱₀ () Set.univ := fun t => by
  rw [bigSep_W0, bigSep_W0]
  sl_whnfR [defs₀, Defs.onTc]
  simp only [before_0, before_1, before_2, before_3]
  rw [show (dats m 0 c).Φ t.succ = S m c (t.val + 1) from rfl, show (dats m 0 c).Φ t.castSucc = S m c t.val from rfl,
    show (dats m 0 c).owesAt () t.succ = (dats m 0 c).owesAt () t.castSucc from rfl,
    after_0, after_1, after_2, after_3]
  by_cases hl : t.val = 13
  · have h0 : t.val ≠ 0 := by omega
    have h1 : ¬ first (grid0.coords t) = 1#1 := fun h => h0 ((first_at t).1 h)
    have h2 := (last_at t).2 hl
    obtain ⟨i4, i5⟩ := live_at t hl
    simp only [i4, i5]
    rw [after_4, after_5]
    unfold S
    iintro ⟨⟨⟨⟨%d8, %hd8, S0⟩, S1, S2⟩, HR⟩, Ho, ⟨%d0, H0⟩, ⟨%d1, H1⟩, ⟨%d2, H2⟩, ⟨%d3, H3⟩, ⟨%d4, H4⟩, ⟨%d5, H5⟩⟩
    have e : step (grid0.coords t) d8 (iblk m c 0 t) (iblk m c 1 t) (iblk m c 2 t) (iblk m c 3 t) = lg m c (t.val + 1) := (by rw [hd8 h0]; exact (lg_succ m c t).symm)
    iapply (body_last (grid0.coords t) _ _ _ _ _ _ _ _ _ _ _ _ _ _ _ _ _ _ c Set.univ _ (iblk m c 0 t) (iblk m c 1 t) (iblk m c 2 t) (iblk m c 3 t) d8 _ _ h1 h2)
    rw [e]
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    iintro ⟨H0, H1, H2, H3, H4, H5, S0, S1, S2⟩
    isplitl [S0 S1 S2 HR]
    · isplitl [S0 S1 S2]
      · isplitl [S0]
        · iexists _; isplitr; swap; · iexact S0
          ipureintro; exact fun _ => rfl
        isplitl [S1]; · iexact S1
        iexact S2
      iexact HR
    isplitl [Ho]; · iexact Ho
    isplitl [H0]; · iexact H0
    isplitl [H1]; · iexact H1
    isplitl [H2]; · iexact H2
    isplitl [H3]; · iexact H3
    isplitl [H4]; · iexact H4
    iexact H5
  have h2 : ¬ k0_cond2 (grid0.coords t) = 1#1 := fun h => hl ((last_at t).1 h)
  obtain ⟨⟨i4, f4⟩, i5, f5⟩ := idle_at t hl
  by_cases h0 : t.val = 0
  · have h1 := (first_at t).2 h0
    simp only [i4, f4, i5, f5]
    unfold S
    iintro ⟨⟨⟨⟨%d8, %hd8, S0⟩, S1, S2⟩, HR⟩, Ho, ⟨%d0, H0⟩, ⟨%d1, H1⟩, ⟨%d2, H2⟩, ⟨%d3, H3⟩, ⟨%d4, H4⟩, ⟨%d5, H5⟩⟩
    have e : step (grid0.coords t) d8 (iblk m c 0 t) (iblk m c 1 t) (iblk m c 2 t) (iblk m c 3 t) = lg m c (t.val + 1) := (step_first _ h1 d8 (lg m c t.val) _ _ _ _).trans (lg_succ m c t).symm
    iapply (body_first (grid0.coords t) _ _ _ _ _ _ _ _ _ _ _ _ _ _ _ _ _ _ c Set.univ _ (iblk m c 0 t) (iblk m c 1 t) (iblk m c 2 t) (iblk m c 3 t) d8 _ _ h1 h2)
    rw [e]
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    iintro ⟨H0, H1, H2, H3, H4, H5, S0, S1, S2⟩
    isplitl [S0 S1 S2 HR]
    · isplitl [S0 S1 S2]
      · isplitl [S0]
        · iexists _; isplitr; swap; · iexact S0
          ipureintro; exact fun _ => rfl
        isplitl [S1]; · iexact S1
        iexact S2
      iexact HR
    isplitl [Ho]; · iexact Ho
    isplitl [H0]; · iexact H0
    isplitl [H1]; · iexact H1
    isplitl [H2]; · iexact H2
    isplitl [H3]; · iexact H3
    isplitl [H4]; · iexists d4; iexact H4
    iexists d5; iexact H5
  · have h1 : ¬ first (grid0.coords t) = 1#1 := fun h => h0 ((first_at t).1 h)
    simp only [i4, f4, i5, f5]
    unfold S
    iintro ⟨⟨⟨⟨%d8, %hd8, S0⟩, S1, S2⟩, HR⟩, Ho, ⟨%d0, H0⟩, ⟨%d1, H1⟩, ⟨%d2, H2⟩, ⟨%d3, H3⟩, ⟨%d4, H4⟩, ⟨%d5, H5⟩⟩
    have e : step (grid0.coords t) d8 (iblk m c 0 t) (iblk m c 1 t) (iblk m c 2 t) (iblk m c 3 t) = lg m c (t.val + 1) := (by rw [hd8 h0]; exact (lg_succ m c t).symm)
    iapply (body_mid (grid0.coords t) _ _ _ _ _ _ _ _ _ _ _ _ _ _ _ _ _ _ c Set.univ _ (iblk m c 0 t) (iblk m c 1 t) (iblk m c 2 t) (iblk m c 3 t) d8 _ _ h1 h2)
    rw [e]
    isplitl [H0]; · iexact H0
    isplitl [H1]; · iexact H1
    isplitl [H2]; · iexact H2
    isplitl [H3]; · iexact H3
    isplitl [H4]; · iexact H4
    isplitl [H5]; · iexact H5
    isplitl [S0]; · iexact S0
    isplitl [S1]; · iexact S1
    isplitl [S2]; · iexact S2
    iintro ⟨H0, H1, H2, H3, H4, H5, S0, S1, S2⟩
    isplitl [S0 S1 S2 HR]
    · isplitl [S0 S1 S2]
      · isplitl [S0]
        · iexists _; isplitr; swap; · iexact S0
          ipureintro; exact fun _ => rfl
        isplitl [S1]; · iexact S1
        iexact S2
      iexact HR
    isplitl [Ho]; · iexact Ho
    isplitl [H0]; · iexact H0
    isplitl [H1]; · iexact H1
    isplitl [H2]; · iexact H2
    isplitl [H3]; · iexact H3
    isplitl [H4]; · iexists d4; iexact H4
    iexists d5; iexact H5

set_option backward.isDefEq.respectTransparency.types false in
/-- Every fair execution of @main ends, with every array of the pipeline at what the proof data says and every
    semaphore at zero. -/
theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Ex.𝒱₀ m ρ main
    (hbody := fun c => (body_obligation m c).loose) (hshare := fun c => (dats m 0 c).share_full fun _ => rfl)
    (howed := fun _ _ => rfl) (V := V m) (hmain := hmain m Ex.𝒱₀) (hA := fun _ _ => rfl) (hin := fun c => inv_in m c) (hout := fun c => inv_out m c _)

/-- The frame: the run ends with the arguments as they were and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_with_sems (frame_of m ρ (dats m) fun _ _ => rfl) (run_main m ρ)

end Cert.Proof.Ro

end
-- ==== Proof.RouteBits.lean ====
module

public import proofs.«01_k».proof.Proof.Gen.Router
public import proofs.«01_k».proof.Proof.RouteRun

/-! The router call printed for words of floats is the one printed for extended reals, its named constant read as the
    literal it stands for: what was proved at any values and any reading of the name holds of it. -/

@[expose] public section

set_option maxRecDepth 65536

noncomputable section

namespace Cert.Proof.Ro

open Idealize.ShloMosaic Idealize.ShloMosaic.TcCoe
open Idealize.SL Idealize.SL.Sem

variable {F : FTy → Type} [FloatOps F]

/-- A named constant read as the literal it was printed from. -/
abbrev literal : Named F where
  named := fun _ _ {φ} bits => (Scalar.ofBits φ bits : F φ)

attribute [local instance] literal

/-- The kernels' body tables agree. -/
theorem table_eq : Cert.Router.defs₀ (F := F) = Cert.RouterIdeal.defs₀ (F := F) := by
  funext p l a
  match p with
  | .tc => match l, a with
    | ⟨0, _⟩, (t, s) => rfl
    | ⟨_ + 1, h⟩, _ => exact absurd h (Nat.not_lt.2 (Nat.le_add_left _ _))
  | .scScalar _ => rfl
  | .scVector _ _ => rfl

/-- So do the tables with the pipeline's own labels. -/
theorem defs_eq : Cert.Router.defs (F := F) = Cert.RouterIdeal.defs (F := F) :=
  congrArg (Pipeline.defs (Cert.RouterIdeal.pcfgs (F := F))) table_eq

/-- And the launched functions. -/
theorem main_eq : Cert.Router.main (F := F) = Cert.RouterIdeal.main (F := F) := rfl

/-- The frame of the first printing. -/
theorem frame_bits (m : (ℓ : Loc Cert.Router.nD Cert.Router.τ Cert.Router.sig) → Buf (Elt F) ℓ) (ρ : Dev Cert.Router.nD → PrngReg) :
    θ_run (Cert.Router.defs (F := F)) (onTc (τ := Cert.Router.τ) (Cert.Router.main (F := F))) ⟨m, fun _ => 0, ρ⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0) := by
  rw [defs_eq, main_eq]
  exact frame m ρ

end Cert.Proof.Ro

end
-- ==== Proof.TopTwo.lean ====
/-
  The two greatest of a row, equal values in index order: what a stable descending sort puts first, and what two
  rounds of maximum-and-lowest-index pick.
-/
module

public import Idealize.ShloMosaic.Lib.SortFacts
public import Idealize.ShloMosaic.Lib.SortNet.Extract
public import Idealize.ShloMosaic.Lib.Pointwise

@[expose] public section

namespace Cert.Proof.To

open Idealize.ShloMosaic

variable {n : ℕ}

/-- `i` comes strictly before `j` in the descending order of `L`, equal values in index order. -/
def Before (L : Fin n → ℝ) (i j : Fin n) : Prop := L j < L i ∨ (L j = L i ∧ i < j)

/-- `p` and `q` are the first and the second of the descending order. -/
structure Pair (L : Fin n → ℝ) (p q : Fin n) : Prop where
  ne : p ≠ q
  first : ∀ k, k ≠ p → Before L p k
  second : ∀ k, k ≠ p → k ≠ q → Before L q k

/-- Inserting an element of lower index than every one of a sorted list keeps the list sorted. -/
theorem pairwise_insert (L : Fin n → ℝ) (R : Fin n → Fin n → Bool) (hR : ∀ i j, R i j = true ↔ L j < L i) (a : Fin n) :
    ∀ l : List (Fin n), (∀ b ∈ l, a < b) → l.Pairwise (Before L) → (insertBefore R a l).Pairwise (Before L)
      ∧ ∀ c, c ∈ insertBefore R a l → c = a ∨ c ∈ l
  | [], _, _ => ⟨by simp [insertBefore], by simp [insertBefore]⟩
  | b :: l, ha, hl => by
    obtain ⟨hb, hl'⟩ := List.pairwise_cons.mp hl
    obtain ⟨ih, mem⟩ := pairwise_insert L R hR a l (fun c hc => ha c (List.mem_cons_of_mem _ hc)) hl'
    unfold insertBefore
    by_cases h : R b a = true
    · rw [if_pos h]
      refine ⟨List.pairwise_cons.mpr ⟨fun c hc => ?_, ih⟩, fun c hc => ?_⟩
      · rcases mem c hc with rfl | hc'
        · exact Or.inl ((hR _ _).mp h)
        · exact hb c hc'
      · rcases List.mem_cons.mp hc with rfl | hc'
        · exact Or.inr List.mem_cons_self
        · rcases mem c hc' with rfl | h'
          · exact Or.inl rfl
          · exact Or.inr (List.mem_cons_of_mem _ h')
    · rw [if_neg h]
      have hba : L b ≤ L a := not_lt.mp fun h' => h ((hR _ _).mpr h')
      refine ⟨List.pairwise_cons.mpr ⟨fun c hc => ?_, hl⟩, fun c hc => List.mem_cons.mp hc⟩
      have hca : L c ≤ L a := by
        rcases List.mem_cons.mp hc with rfl | hc'
        · exact hba
        · rcases hb c hc' with h' | ⟨h', -⟩
          · exact h'.le.trans hba
          · exact h'.le.trans hba
      rcases hca.lt_or_eq with h' | h'
      · exact Or.inl h'
      · exact Or.inr ⟨h', ha c hc⟩

/-- A stable descending sort of a list in index order. -/
theorem pairwise_sort (L : Fin n → ℝ) (R : Fin n → Fin n → Bool) (hR : ∀ i j, R i j = true ↔ L j < L i) :
    ∀ l : List (Fin n), l.Pairwise (· < ·) → (stableSort R l).Pairwise (Before L) ∧ ∀ c, c ∈ stableSort R l → c ∈ l
  | [], _ => ⟨List.Pairwise.nil, by simp [stableSort]⟩
  | a :: l, h => by
    obtain ⟨ha, hl⟩ := List.pairwise_cons.mp h
    obtain ⟨ih, mem⟩ := pairwise_sort L R hR l hl
    obtain ⟨p, m⟩ := pairwise_insert L R hR a _ (fun b hb => ha b (mem b hb)) ih
    refine ⟨p, fun c hc => ?_⟩
    rcases m c hc with rfl | h'
    · exact List.mem_cons_self
    · exact List.mem_cons_of_mem _ (mem c h')

/-- The sort's positions are in the descending order. -/
theorem sorted_before (L : Fin n → ℝ) (R : Fin n → Fin n → Bool) (hR : ∀ i j, R i j = true ↔ L j < L i) (i j : Fin n) (hij : i < j) :
    Before L (sortedFrom R i) (sortedFrom R j) := by
  have hp : ∀ a b : Fin (sortPositions n R).length, a < b → Before L ((sortPositions n R).get a) ((sortPositions n R).get b) :=
    List.pairwise_iff_get.mp (pairwise_sort L R hR (List.finRange n) (List.pairwise_lt_finRange n)).1
  unfold sortedFrom
  exact hp _ _ (by simp only [Fin.lt_def, Fin.val_cast]; exact hij)

/-- The positions the sort puts first and second. -/
theorem sorted_pair (L : Fin 8 → ℝ) (R : Fin 8 → Fin 8 → Bool) (hR : ∀ i j, R i j = true ↔ L j < L i) :
    Pair L (sortedFrom R 0) (sortedFrom R 1) where
  ne h := absurd (sortedFrom_injective R h) (by decide)
  first k hk := by
    obtain ⟨i, rfl⟩ := sortedFrom_surjective R k
    refine sorted_before L R hR _ _ (Fin.pos_of_ne_zero fun h => hk (by rw [h]))
  second k hk hk' := by
    obtain ⟨i, rfl⟩ := sortedFrom_surjective R k
    refine sorted_before L R hR _ _ ?_
    have h0 : i ≠ 0 := fun h => hk (by rw [h])
    have h1 : i ≠ 1 := fun h => hk' (by rw [h])
    rcases i with ⟨i, hi⟩
    simp only [ne_eq, Fin.ext_iff, Fin.val_zero, Fin.val_one] at h0 h1
    rw [Fin.lt_def]; show 1 < i; omega

theorem Pair.le_first {L : Fin n → ℝ} {p q : Fin n} (h : Pair L p q) (k : Fin n) : L k ≤ L p := by
  by_cases hk : k = p
  · rw [hk]
  · rcases h.first k hk with h' | h'
    · exact h'.le
    · exact h'.1.le

theorem Pair.le_second {L : Fin n → ℝ} {p q : Fin n} (h : Pair L p q) (k : Fin n) (hp : k ≠ p) : L k ≤ L q := by
  by_cases hk : k = q
  · rw [hk]
  · rcases h.second k hp hk with h' | h'
    · exact h'.le
    · exact h'.1.le

theorem Pair.min_first {L : Fin n → ℝ} {p q : Fin n} (h : Pair L p q) (k : Fin n) (e : L k = L p) : p ≤ k := by
  by_cases hk : k = p
  · rw [hk]
  · rcases h.first k hk with h' | h'
    · exact absurd e h'.ne
    · exact h'.2.le

theorem Pair.min_second {L : Fin n → ℝ} {p q : Fin n} (h : Pair L p q) (k : Fin n) (hp : k ≠ p) (e : L k = L q) : q ≤ k := by
  by_cases hk : k = q
  · rw [hk]
  · rcases h.second k hp hk with h' | h'
    · exact absurd e h'.ne
    · exact h'.2.le

/-! ## Folds -/

/-- A maximum from the bottom over a row is the value that is attained and bounds the row. -/
theorem fold_max_eq {ι : Type*} [Fintype ι] (f : ι → EReal) (v : EReal) (k : ι) (hk : f k = v) (h : ∀ i, f i ≤ v) :
    (Finset.univ : Finset ι).fold max ⊥ f = v := by
  refine le_antisymm ((Finset.fold_max_le v).mpr ⟨bot_le, fun i _ => h i⟩) ?_
  exact (Finset.le_fold_max v).mpr (Or.inr ⟨k, Finset.mem_univ _, hk.ge⟩)

theorem toInt_fold_minsi {ι : Type*} [DecidableEq ι] (b : BitVec 32) (f : ι → BitVec 32) (s : Finset ι) :
    (s.fold IntOp.minsi b f).toInt = s.fold min b.toInt (fun i => (f i).toInt) := by
  induction s using Finset.induction_on with
  | empty => rfl
  | insert a s ha ih => rw [Finset.fold_insert ha, Finset.fold_insert ha, SortNet.toInt_minsi, ih]

/-- A signed minimum over a row is the value that is attained and bounds the row and the initial word. -/
theorem fold_min_eq {ι : Type*} [Fintype ι] [DecidableEq ι] (b : BitVec 32) (f : ι → BitVec 32) (v : BitVec 32) (k : ι) (hk : f k = v)
    (hb : v.toInt ≤ b.toInt) (h : ∀ i, v.toInt ≤ (f i).toInt) : (Finset.univ : Finset ι).fold IntOp.minsi b f = v := by
  refine BitVec.eq_of_toInt_eq ?_
  rw [toInt_fold_minsi]
  refine le_antisymm ?_ ((Finset.le_fold_min _).mpr ⟨hb, fun i _ => h i⟩)
  exact (Finset.fold_min_le _).mpr (Or.inr ⟨k, Finset.mem_univ _, by rw [hk]⟩)

end Cert.Proof.To
-- ==== Proof.Gating.lean ====
/-
  The router's gating, read over the reals: with every logit of the eight experts a real number and the other lanes
  below all of them, the kernel's two rounds pick the two greatest, and its gates, indices and loss are the plain ones.
-/
module

public import proofs.«01_k».proof.Proof.TopTwo
public import proofs.«01_k».proof.Proof.RouteBody

@[expose] public section

set_option maxRecDepth 16384

noncomputable section

namespace Cert.Proof.Ga

open Cert.RouterIdeal Cert.RouterIdeal.Gen Cert.Proof.To Cert.Proof.Ro
open Idealize.ShloMosaic

/-- A row of sixteen lanes holding eight real logits and, beyond them, the bottom. -/
def Holds (l : FVec Ideal S2x16 .f32) (L : Fin 2 → Fin 8 → ℝ) : Prop :=
  ∀ (b : Fin 2) (k : Fin 16), l (ix2 b k) = if h : k.val < 8 then ((L b ⟨k.val, h⟩ : ℝ) : EReal) else ⊥

theorem toInt_lane (k : Fin 16) : (BitVec.ofNat 32 k.val).toInt = (k.val : ℤ) := by
  revert k; decide

theorem toInt_lane8 (k : Fin 8) : (BitVec.ofNat 32 k.val).toInt = (k.val : ℤ) := by
  revert k; decide

theorem bits_ninf : Ideal.ofBits .f32 0xFF800000#32 = ⊥ := by
  simp [Ideal.ofBits, Ideal.ieee]

theorem lanes_apply (b : Fin 2) (k : Fin 16) : lanes (ix2 b k) = BitVec.ofNat 32 k.val := by
  pointwise [lanes]

theorem lane_eq (k : Fin 16) (p : Fin 8) : (BitVec.ofNat 32 k.val = BitVec.ofNat 32 p.val) = (k.val = p.val) := by
  revert k p; decide

theorem lane_zero (k : Fin 16) : (BitVec.ofNat 32 k.val = 0#32) = (k.val = 0) := by
  revert k; decide

theorem lane_one (k : Fin 16) : (BitVec.ofNat 32 k.val = 1#32) = (k.val = 1) := by
  revert k; decide

theorem select_eq {α : Type} (x y : BitVec 32) (a b : α) : Scalar.select (IntOp.cmpi .eq x y) a b = if x = y then a else b := by
  by_cases h : x = y
  · subst h; simp [IntOp.cmpi, Scalar.select]
  · rw [if_neg h]
    have : (x == y) = false := by simpa using h
    simp [IntOp.cmpi, Scalar.select, this]

variable {l : FVec Ideal S2x16 .f32} {L : Fin 2 → Fin 8 → ℝ} {p q : Fin 2 → Fin 8} (hl : Holds l L) (hp : ∀ b, Pair (L b) (p b) (q b))
include hl hp

omit hp in
theorem at_expert (b : Fin 2) (k : Fin 8) : l (ix2 b ⟨k.val, by omega⟩) = ((L b k : ℝ) : EReal) := by
  rw [hl, dif_pos k.isLt]

theorem max1 (b : Fin 2) : k0_pay14 (F := Ideal) l (ix2 b 0) = ((L b (p b) : ℝ) : EReal) := by
  pointwise [k0_pay14]
  rw [bits_ninf]
  refine fold_max_eq _ _ ⟨(p b).val, by omega⟩ (at_expert hl b (p b)) fun k => ?_
  rw [hl]
  split
  · exact EReal.coe_le_coe_iff.mpr ((hp b).le_first _)
  · exact bot_le

theorem idx1 (b : Fin 2) : k0_pay15 (F := Ideal) lanes l (ix2 b 0) = BitVec.ofNat 32 (p b).val := by
  pointwise [k0_pay15]
  simp only [max1 hl hp, lanes_apply]
  refine fold_min_eq _ _ _ ⟨(p b).val, by omega⟩ (if_pos (at_expert hl b (p b))) ?_ fun k => ?_
  · rw [toInt_lane8]; have := (p b).isLt; show _ ≤ (2147483647 : ℤ); omega
  · rw [toInt_lane8]
    have h8 := (p b).isLt
    split
    · rename_i e
      rw [toInt_lane]
      rw [hl] at e
      split at e
      · rename_i h
        have := (hp b).min_first ⟨k.val, h⟩ (EReal.coe_injective e)
        exact_mod_cast this
      · exact absurd e.symm (EReal.coe_ne_bot _)
    · show _ ≤ (16 : ℤ); omega

theorem masked (b : Fin 2) (k : Fin 16) : k0_pay16 (F := Ideal) lanes l (ix2 b k) = if k.val = (p b).val then ⊥ else l (ix2 b k) := by
  pointwise [k0_pay16]
  simp only [idx1 hl hp, lanes_apply, select_eq, lane_eq]
  rfl

theorem max2 (b : Fin 2) : k0_pay17 (F := Ideal) lanes l (ix2 b 0) = ((L b (q b) : ℝ) : EReal) := by
  pointwise [k0_pay17]
  simp only [masked hl hp]
  rw [bits_ninf]
  refine fold_max_eq _ _ ⟨(q b).val, by omega⟩ ((if_neg fun e => (hp b).ne (Fin.ext e.symm)).trans (at_expert hl b (q b))) fun k => ?_
  split
  · exact bot_le
  · rename_i hk
    rw [hl]
    split
    · exact EReal.coe_le_coe_iff.mpr ((hp b).le_second _ fun e => hk (congrArg Fin.val e))
    · exact bot_le

theorem idx2 (b : Fin 2) : k0_pay18 (F := Ideal) lanes l (ix2 b 0) = BitVec.ofNat 32 (q b).val := by
  pointwise [k0_pay18]
  simp only [max2 hl hp, masked hl hp, lanes_apply]
  refine fold_min_eq _ _ _ ⟨(q b).val, by omega⟩ (if_pos ((if_neg fun e => (hp b).ne (Fin.ext e.symm)).trans (at_expert hl b (q b)))) ?_ fun k => ?_
  · rw [toInt_lane8]; have := (q b).isLt; show _ ≤ (2147483647 : ℤ); omega
  · rw [toInt_lane8]
    have h8 := (q b).isLt
    by_cases e : (if k.val = (p b).val then ⊥ else l (ix2 b k)) = ((L b (q b) : ℝ) : EReal)
    · rw [if_pos e, toInt_lane]
      split at e
      · exact absurd e.symm (EReal.coe_ne_bot _)
      · rename_i hk
        rw [hl] at e
        split at e
        · rename_i h
          have := (hp b).min_second ⟨k.val, h⟩ (fun e => hk (congrArg Fin.val e)) (EReal.coe_injective e)
          exact_mod_cast this
        · exact absurd e.symm (EReal.coe_ne_bot _)
    · rw [if_neg e]; show _ ≤ (16 : ℤ); omega

/-- The first gate of a row, and the second. -/
def g1 (L : Fin 8 → ℝ) (p q : Fin 8) : EReal := Ideal.div 1 (1 + ((Real.exp (L q - L p) : ℝ) : EReal))
def g2 (L : Fin 8 → ℝ) (p q : Fin 8) : EReal := Ideal.div ((Real.exp (L q - L p) : ℝ) : EReal) (1 + ((Real.exp (L q - L p) : ℝ) : EReal))

/-- The gates by expert. -/
def gate (L : Fin 8 → ℝ) (p q : Fin 8) (k : ℕ) : EReal := if k = p.val then g1 L p q else if k = q.val then g2 L p q else 0

theorem gates (b : Fin 2) (k : Fin 16) : k0_pay19 (F := Ideal) lanes l (ix2 b k) = gate (L b) (p b) (q b) k.val := by
  pointwise [k0_pay19]
  simp only [max1 hl hp, max2 hl hp, idx1 hl hp, idx2 hl hp, lanes_apply, select_eq, lane_eq, lane_zero, lane_one]
  rw [← EReal.coe_sub, Ideal.exp_coe]
  rfl

theorem top_eq (b : Fin 2) (k : Fin 16) : top (F := Ideal) l (ix2 b k)
    = if k.val = 0 then BitVec.ofNat 32 (p b).val else if k.val = 1 then BitVec.ofNat 32 (q b).val else 0#32 := by
  pointwise [top, k0_pay20, k0_pay21, k0_pay22]
  simp only [idx1 hl hp, idx2 hl hp, lanes_apply, select_eq, lane_eq, lane_zero, lane_one]

end Cert.Proof.Ga

namespace Cert.Proof.To

open Idealize.ShloMosaic

/-- The variance over the squared mean, of eight numbers. -/
def cv (v : Fin 8 → EReal) : EReal :=
  Ideal.div (Ideal.div (∑ k, (v k - Ideal.div (∑ k, v k) (Ideal.ofBits .f32 0x41000000#32)) * (v k - Ideal.div (∑ k, v k) (Ideal.ofBits .f32 0x41000000#32))) (Ideal.ofBits .f32 0x40E00000#32))
    (Ideal.div (∑ k, v k) (Ideal.ofBits .f32 0x41000000#32) * Ideal.div (∑ k, v k) (Ideal.ofBits .f32 0x41000000#32) + Ideal.ofBits .f32 0x2EDBE6FF#32)

/-- One where a gate is open, else zero. -/
def opened (g : EReal) : EReal := if 0 < g then 1 else 0

/-- The load-balancing loss of a table of gates. -/
def lossOf (G : Fin 2 → ℕ → EReal) : EReal :=
  (cv (fun k => ∑ b, G b k.val) + cv (fun k => ∑ b, opened (G b k.val))) * Ideal.ofBits .f32 0x3C23D70A#32

theorem sum_half (f : Fin 16 → EReal) (h : ∀ k : Fin 16, 8 ≤ k.val → f k = 0) : ∑ k, f k = ∑ k : Fin 8, f ⟨k.val, by omega⟩ := by
  rw [show (∑ k, f k) = ∑ k : Fin (8 + 8), f k from rfl, Fin.sum_univ_add,
    Finset.sum_eq_zero (f := fun i : Fin 8 => f (Fin.natAdd 8 i)) fun k _ => h _ (by simp), add_zero]
  rfl

end Cert.Proof.To

namespace Cert.Proof.Ga

open Cert.RouterIdeal Cert.RouterIdeal.Gen Cert.Proof.To Cert.Proof.Ro
open Idealize.ShloMosaic

theorem lane_lt (k : Fin 16) : IntOp.cmpi .slt (BitVec.ofNat 32 k.val) 8#32 = BitVec.ofBool (decide (k.val < 8)) := by
  revert k; decide

theorem opened_eq (g : EReal) : (FloatOps.sitofp (F := Ideal) .f32 (BitVec.setWidth 32 (BitVec.ofBool (decide (0 < g)))) : EReal) = opened g := by
  unfold opened
  by_cases h : 0 < g
  · rw [if_pos h, decide_eq_true h]
    show (((1#32 : BitVec 32).toInt : ℝ) : EReal) = 1
    norm_num
  · rw [if_neg h, decide_eq_false h]
    show (((0#32 : BitVec 32).toInt : ℝ) : EReal) = 0
    norm_num

/-- The lanes beyond the eighth count for nothing in the variance. -/
theorem cv16 (v : Fin 16 → EReal) (h : ∀ k : Fin 16, 8 ≤ k.val → v k = 0) :
    Ideal.div (Ideal.div (∑ x : Fin 16, Scalar.select (IntOp.cmpi .slt (BitVec.ofNat 32 x.val) 8#32)
        (Scalar.select (IntOp.cmpi .slt (BitVec.ofNat 32 x.val) 8#32)
          ((v x - Ideal.div (∑ k, v k) (Ideal.ofBits .f32 0x41000000#32)) * (v x - Ideal.div (∑ k, v k) (Ideal.ofBits .f32 0x41000000#32))) 0) 0)
        (Ideal.ofBits .f32 0x40E00000#32))
      (Ideal.div (∑ k, v k) (Ideal.ofBits .f32 0x41000000#32) * Ideal.div (∑ k, v k) (Ideal.ofBits .f32 0x41000000#32) + Ideal.ofBits .f32 0x2EDBE6FF#32)
    = cv fun k => v ⟨k.val, by omega⟩ := by
  rw [sum_half v h, sum_half _ fun k hk => ?_]
  · unfold cv
    congr 2
  · rw [lane_lt, decide_eq_false (by omega)]
    rfl

theorem cv24 (v : FVec Ideal S2x16 .f32) (h : ∀ (b : Fin 2) (k : Fin 16), 8 ≤ k.val → v (ix2 b k) = 0) :
    k0_pay24 (F := Ideal) lanes v = cv fun k => ∑ b, v (ix2 b ⟨k.val, by omega⟩) := by
  rw [← cv16 (fun k => ∑ b, v (ix2 b k)) fun k hk => Finset.sum_eq_zero fun b _ => h b k hk]
  pointwise [k0_pay24]
  simp only [lanes_apply]

theorem gate_beyond (L : Fin 8 → ℝ) (p q : Fin 8) (k : ℕ) (h : 8 ≤ k) : gate L p q k = 0 := by
  unfold gate
  rw [if_neg (by omega), if_neg (by omega)]

variable {l : FVec Ideal S2x16 .f32} {L : Fin 2 → Fin 8 → ℝ} {p q : Fin 2 → Fin 8} (hl : Holds l L) (hp : ∀ b, Pair (L b) (p b) (q b))
include hl hp

theorem bal_eq : bal (F := Ideal) l (ix2 0 0) = lossOf fun b k => gate (L b) (p b) (q b) k := by
  pointwise [bal, k0_pay2, k0_pay25, k0_pay23, k0_pay26]
  simp only [lanes_apply, gates hl hp, opened_eq]
  rw [cv16 (fun k => ∑ b, opened (gate (L b) (p b) (q b) k.val)) fun k hk => Finset.sum_eq_zero fun b _ => by
      rw [gate_beyond _ _ _ _ hk]; exact if_neg (lt_irrefl _),
    cv24 _ fun b k hk => by rw [gates hl hp, gate_beyond _ _ _ _ hk]]
  simp only [gates hl hp]
  rfl

end Cert.Proof.Ga

end
-- ==== Proof.Logit.lean ====
/-
  The router's logits over the reals: a depthwise response summed over channels, a bias added, and a product with the
  gating weights over all positions; and the same number gathered from seven row tiles.
-/
module

public import Idealize.ShloMosaic.Lib.Pointwise

@[expose] public section

noncomputable section

namespace Cert.Proof.Lo

open Idealize.ShloMosaic

/-- A finite sum of reals, read as an extended real, is the sum of the terms so read. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

variable (X : Fin 2 → Fin 230 → Fin 230 → Fin 96 → ℝ) (W : Fin 7 → Fin 7 → Fin 96 → ℝ) (β : ℝ) (g : Fin 50176 → Fin 8 → ℝ)

/-- The depthwise response of one channel at one position. -/
def response (b : Fin 2) (h w : Fin 224) (c : Fin 96) : ℝ :=
  ∑ i : Fin 7, ∑ j : Fin 7, W i j c * X b ⟨i.val + h.val, by omega⟩ ⟨j.val + w.val, by omega⟩ c

/-- The logit of one expert for one image. -/
def logit (b : Fin 2) (l : Fin 8) : ℝ :=
  ∑ p : Fin 50176, ((∑ c : Fin 96, response X W b ⟨p.val / 224, by omega⟩ ⟨p.val % 224, by omega⟩ c) + β) * g p l

/-- What one tile of 32 rows adds to the logit. -/
def part (b : Fin 2) (k : Fin 7) (l : Fin 8) : ℝ :=
  (∑ c : Fin 96, ∑ q : Fin 7168, response X W b ⟨32 * k.val + q.val / 224, by omega⟩ ⟨q.val % 224, by omega⟩ c * g ⟨7168 * k.val + q.val, by omega⟩ l)
    + β * ∑ q : Fin 7168, g ⟨7168 * k.val + q.val, by omega⟩ l

/-- The positions are the seven tiles' positions, one tile after another. -/
theorem sum_tiles (f : Fin 50176 → ℝ) : ∑ p, f p = ∑ k : Fin 7, ∑ q : Fin 7168, f ⟨7168 * k.val + q.val, by omega⟩ := by
  rw [← Fintype.sum_prod_type']
  refine (Fintype.sum_equiv (finProdFinEquiv (m := 7) (n := 7168)) _ _ fun x => ?_).symm
  refine congrArg f (Fin.ext ?_)
  show 7168 * x.1.val + x.2.val = x.2.val + 7168 * x.1.val
  omega

/-- The tiles' parts add up to the logit. -/
theorem parts (b : Fin 2) (l : Fin 8) : ∑ k : Fin 7, part X W β g b k l = logit X W β g b l := by
  unfold logit
  rw [sum_tiles]
  refine Finset.sum_congr rfl fun k _ => ?_
  unfold part
  rw [Finset.sum_comm, Finset.mul_sum, ← Finset.sum_add_distrib]
  refine Finset.sum_congr rfl fun q _ => ?_
  rw [← Finset.sum_mul, ← add_mul]
  have h : (7168 * k.val + q.val) / 224 = 32 * k.val + q.val / 224 := by omega
  have w : (7168 * k.val + q.val) % 224 = q.val % 224 := by omega
  simp only [h, w]

/-- A convolution of real entries is a real number, the response. -/
theorem coe_response (b : Fin 2) (h w : Fin 224) (c : Fin 96) : ((response X W b h w c : ℝ) : EReal)
    = ∑ i : Fin 7, ∑ j : Fin 7, ((W i j c : ℝ) : EReal) * ((X b ⟨i.val + h.val, by omega⟩ ⟨j.val + w.val, by omega⟩ c : ℝ) : EReal) := by
  unfold response
  simp only [coe_sum, EReal.coe_mul]

end Cert.Proof.Lo

end
-- ==== Proof.RouteValue.lean ====
/-
  The router call read over the reals: its blocks, its logits after every point, and its two result arrays.
-/
module

public import proofs.«01_k».proof.Proof.RouteRun
public import proofs.«01_k».proof.Proof.ExpertPure
public import proofs.«01_k».proof.Proof.Gating
public import proofs.«01_k».proof.Proof.Logit
public import Idealize.ShloMosaic.Lib.Pointwise
public import Idealize.ShloMosaic.Lib.Claim

@[expose] public section

set_option maxRecDepth 16384

noncomputable section

namespace Cert.Proof.Ro

open Cert.RouterIdeal Cert.RouterIdeal.Gen
open Idealize.ShloMosaic Idealize.ShloMosaic.TcCoe Idealize.ShloMosaic.Tactic
open Idealize.SL.Sem

/-! ## One point's addition to the logits -/

/-- The row a point adds: each expert's lane the product of the responses with the gating weights, summed, and zero beyond. -/
theorem row_apply (v : FVec Ideal S32x224x96 .f32) (g : FVec Ideal S1x7168x8 .f32) (r : Ideal .f32) (k : Fin 16) :
    k0_pay32 (F := Ideal) v g r (ix2 0 k) = if h : k.val < 8 then
      ((∑ c : Fin 96, ∑ q : Fin 7168, v (ix3 ⟨q.val / 224, by omega⟩ ⟨q.val % 224, by omega⟩ c) * g (ix3 0 q ⟨k.val, h⟩))
        + r * ∑ q : Fin 7168, g (ix3 0 q ⟨k.val, h⟩) : EReal) else 0 := by
  pointwise [k0_pay32]

/-- What the first point starts from: zero for the experts, the bottom beyond. -/
theorem fill_apply (b : Fin 2) (k : Fin 16) : k0_pay31 (F := Ideal) (ix2 b k) = if k.val < 8 then (0 : EReal) else ⊥ := by
  pointwise [k0_pay31]
  have e : ∀ k : Fin 16, IntOp.cmpi .slt (BitVec.ofNat 32 k.val) 8#32 = BitVec.ofBool (decide (k.val < 8)) := by decide
  rw [e]
  by_cases h : k.val < 8
  · rw [if_pos h, decide_eq_true h]; rfl
  · rw [if_neg h, decide_eq_false h]; rfl

theorem mine_apply (i : grid0.Coords) (b : Fin 2) (k : Fin 16) : k0_pay33 i (ix2 b k) = BitVec.ofBool (decide (b.val = (i 0).val)) := by
  pointwise [k0_pay33]
  have e : ∀ a b : Fin 2, IntOp.cmpi .eq (BitVec.ofNat 32 a.val) (BitVec.ofNat 32 b.val) = BitVec.ofBool (decide (a.val = b.val)) := by decide
  exact e b (i 0)

theorem add_apply (v : FVec Ideal S1x16 .f32) (o : FVec Ideal S2x16 .f32) (M : IVec S2x16 1) (z : Ideal .f32) (b : Fin 2) (k : Fin 16) :
    k0_pay1 (F := Ideal) v o M z (ix2 b k) = (o (ix2 b k) + (if M (ix2 b k) = 1#1 then v (ix2 0 k) else z) : EReal) := by
  pointwise [k0_pay1]
  rfl

/-- A point's addition, lane by lane. -/
theorem step_apply (i : grid0.Coords) (old : FVec Ideal S2x16 .f32) (x : FVec Ideal S1x38x230x96 .f32) (ws : FVec Ideal S7x7x96 .f32)
    (g : FVec Ideal S1x7168x8 .f32) (rb : FVec Ideal S1x1 .f32) (b : Fin 2) (k : Fin 16) :
    step (F := Ideal) i old x ws g rb (ix2 b k) = ((if first i = 1#1 then k0_pay31 (F := Ideal) (ix2 b k) else old (ix2 b k))
      + (if b.val = (i 0).val then k0_pay32 (F := Ideal) (Ex.conv x ws 7) g (rb (ix2 0 0)) (ix2 0 k) else 0) : EReal) := by
  unfold step
  rw [add_apply, mine_apply]
  refine congrArg₂ (fun a b : EReal => a + b) ?_ ?_
  · by_cases h : first i = 1#1
    · rw [if_pos h, if_pos h]
    · rw [if_neg h, if_neg h]
  · by_cases h : b.val = (i 0).val
    · rw [if_pos h, decide_eq_true h]; rfl
    · rw [if_neg h, decide_eq_false h]; exact Ideal.ofBits_zero .f32

/-! ## The arrays the host code makes, and the blocks of them a point reads -/

variable (m : (ℓ : Loc nD τ sig) → Buf (Elt Ideal) ℓ) (ρ : Dev nD → PrngReg)

/-- The input, channels last, with three zeros on every side of its image. -/
def image (x : FVec Ideal S2x96x224x224 .f32) : FVec Ideal S2x230x230x96 .f32 :=
  pad S2x230x230x96 ![0, 3, 3, 0] ![0, 3, 3, 0] ![0, 0, 0, 0] (transpose S2x224x224x96 [0, 2, 3, 1] x transposes_S2x96x224x224_S2x224x224x96_0_2_3_1)
    (sitofp .f32 (constantI S_ 32 0#32)) pads_S2x224x224x96_S2x230x230x96_000_330_330_000 h_S_
/-- The router's filter, column offset first and channels last. -/
def filter (w : FVec Ideal S1x96x7x7 .f32) : FVec Ideal S7x7x96 .f32 :=
  transpose S7x7x96 [2, 1, 0] (shapeCast S96x7x7 w shapeCasts_S1x96x7x7_S96x7x7) transposes_S96x7x7_S7x7x96_2_1_0
/-- The gating weights in seven tiles. -/
def tiles (g : FVec Ideal S50176x8 .f32) : FVec Ideal S7x7168x8 .f32 := shapeCast S7x7168x8 g shapeCasts_S50176x8_S7x7168x8
/-- The router's bias as a one by one array. -/
def bias (r : FVec Ideal S1 .f32) : FVec Ideal S1x1 .f32 := shapeCast S1x1 r shapeCasts_S1_S1x1

theorem filter_apply (w : FVec Ideal S1x96x7x7 .f32) (j i : Fin 7) (ch : Fin 96) : filter w (ix3 j i ch) = w (ix4 0 ch i j) := by
  pointwise [filter]
theorem tiles_apply (g : FVec Ideal S50176x8 .f32) (k : Fin 7) (q : Fin 7168) (l : Fin 8) :
    tiles g (ix3 k q l) = g (ix2 ⟨7168 * k.val + q.val, by omega⟩ l) := by
  pointwise [tiles]
  exact congrArg (fun p => g (ix2 p l)) (Fin.ext (show k.val * 7168 + q.val = 7168 * k.val + q.val by omega))
theorem bias_apply (r : FVec Ideal S1 .f32) : bias r (ix2 0 0) = r (ix1 0) := by
  pointwise [bias]

theorem img_is (c : Dev nD) : (V m c main_v1 : FVec Ideal S2x230x230x96 .f32) = image (m ((c : Thread nD τ).loc main_arg0)) := by
  show StableHlo.after [hostOps0, hostOps0_1, hostOps0_2].flatten (fun b => m (c, b)) (Proc.tc.devRef main_v1) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

theorem ws_is (c : Dev nD) : (V m c main_v3 : FVec Ideal S7x7x96 .f32) = filter (m ((c : Thread nD τ).loc main_arg1)) := by
  show StableHlo.after [hostOps0, hostOps0_1, hostOps0_2].flatten (fun b => m (c, b)) (Proc.tc.devRef main_v3) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

theorem gt_is (c : Dev nD) : (V m c main_v4 : FVec Ideal S7x7168x8 .f32) = tiles (m ((c : Thread nD τ).loc main_arg3)) := by
  show StableHlo.after [hostOps0, hostOps0_1, hostOps0_2].flatten (fun b => m (c, b)) (Proc.tc.devRef main_v4) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

theorem rb_is (c : Dev nD) : (V m c main_v5 : FVec Ideal S1x1 .f32) = bias (m ((c : Thread nD τ).loc main_arg2)) := by
  show StableHlo.after [hostOps0, hostOps0_1, hostOps0_2].flatten (fun b => m (c, b)) (Proc.tc.devRef main_v5) = _
  simp only [hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp
  rfl

theorem blk0 (c : Dev nD) (t : Fin cfg0.N) (r : Fin 38) (s : Fin 230) (ch : Fin 96) :
    (iblk m c 0 t : FVec Ideal S1x38x230x96 .f32) (ix4 0 r s ch) = (V m c main_v1 : FVec Ideal S2x230x230x96 .f32)
      (ix4 (grid0.coords t 0) ⟨32 * (grid0.coords t 1).val + r.val, by have : (grid0.coords t 1).val < 7 := (grid0.coords t 1).isLt; omega⟩ s ch) := by
  have e : ∀ t : Fin cfg0.N, cc0_transform_0 (grid0.coords t) = ![(grid0.coords t 0).val, 32 * (grid0.coords t 1).val, 0, 0] := by decide +kernel
  show V m c main_v1 (((cfg0.win 0).blk t).view.emb (ix4 0 r s ch)) = _
  refine congrArg (V m c main_v1) (funext fun a => Fin.ext ?_)
  match a with
  | ⟨0, _⟩ => show cc0_transform_0 (grid0.coords t) 0 + 1 * 0 = _; rw [e]; rfl
  | ⟨1, _⟩ => show cc0_transform_0 (grid0.coords t) 1 + 1 * r.val = _; rw [e, Nat.one_mul]; rfl
  | ⟨2, _⟩ => show cc0_transform_0 (grid0.coords t) 2 + 1 * s.val = _; rw [e, Nat.one_mul]; exact Nat.zero_add _
  | ⟨3, _⟩ => show cc0_transform_0 (grid0.coords t) 3 + 1 * ch.val = _; rw [e, Nat.one_mul]; exact Nat.zero_add _

theorem blk1 (c : Dev nD) (t : Fin cfg0.N) : iblk m c 1 t = V m c main_v3 := by
  funext y
  show V m c main_v3 (((cfg0.win 1).blk t).view.emb y) = _
  refine congrArg (V m c main_v3) (funext fun a => Fin.ext ?_)
  match a with
  | ⟨0, _⟩ => show 0 * 7 + 1 * (y 0).val = (y 0).val; omega
  | ⟨1, _⟩ => show 0 * 7 + 1 * (y 1).val = (y 1).val; omega
  | ⟨2, _⟩ => show 0 * 96 + 1 * (y 2).val = (y 2).val; omega

theorem blk2 (c : Dev nD) (t : Fin cfg0.N) (q : Fin 7168) (l : Fin 8) :
    (iblk m c 2 t : FVec Ideal S1x7168x8 .f32) (ix3 0 q l) = (V m c main_v4 : FVec Ideal S7x7168x8 .f32) (ix3 (grid0.coords t 1) q l) := by
  have e : ∀ t : Fin cfg0.N, cc0_transform_2 (grid0.coords t) = ![(grid0.coords t 1).val, 0, 0] := by decide +kernel
  show V m c main_v4 (((cfg0.win 2).blk t).view.emb (ix3 0 q l)) = _
  refine congrArg (V m c main_v4) (funext fun a => Fin.ext ?_)
  match a with
  | ⟨0, _⟩ => show cc0_transform_2 (grid0.coords t) 0 * 1 + 1 * 0 = _; rw [e]; exact Nat.mul_one _
  | ⟨1, _⟩ => show cc0_transform_2 (grid0.coords t) 1 * 7168 + 1 * q.val = q.val; rw [e]; show 0 * 7168 + 1 * q.val = _; omega
  | ⟨2, _⟩ => show cc0_transform_2 (grid0.coords t) 2 * 8 + 1 * l.val = l.val; rw [e]; show 0 * 8 + 1 * l.val = _; omega

theorem blk3 (c : Dev nD) (t : Fin cfg0.N) : iblk m c 3 t = V m c main_v5 := by
  funext y
  show V m c main_v5 (((cfg0.win 3).blk t).view.emb y) = _
  refine congrArg (V m c main_v5) (funext fun a => Fin.ext ?_)
  match a with
  | ⟨0, _⟩ => show 0 * 1 + 1 * (y 0).val = (y 0).val; omega
  | ⟨1, _⟩ => show 0 * 1 + 1 * (y 1).val = (y 1).val; omega

/-! ## The logits after every point -/

variable (c : Dev nD) (X : Fin 2 → Fin 230 → Fin 230 → Fin 96 → ℝ) (W : Fin 7 → Fin 7 → Fin 96 → ℝ) (β : ℝ) (g : Fin 50176 → Fin 8 → ℝ)
  (hX : ∀ b h w ch, image (m ((c : Thread nD τ).loc main_arg0)) (ix4 b h w ch) = ((X b h w ch : ℝ) : EReal))
  (hW : ∀ (i j : Fin 7) (ch : Fin 96), (m ((c : Thread nD τ).loc main_arg1) : FVec Ideal S1x96x7x7 .f32) (ix4 0 ch i j) = ((W i j ch : ℝ) : EReal))
  (hβ : (m ((c : Thread nD τ).loc main_arg2) : FVec Ideal S1 .f32) (ix1 0) = ((β : ℝ) : EReal))
  (hg : ∀ (p : Fin 50176) (l : Fin 8), (m ((c : Thread nD τ).loc main_arg3) : FVec Ideal S50176x8 .f32) (ix2 p l) = ((g p l : ℝ) : EReal))

include hX hW in
/-- A point's convolution is the response at its tile. -/
theorem conv_at (t : Fin cfg0.N) (r : Fin 32) (s : Fin 224) (ch : Fin 96) :
    Ex.conv (F := Ideal) (iblk m c 0 t) (iblk m c 1 t) 7 (ix3 r s ch) = ((Lo.response X W (grid0.coords t 0)
      ⟨32 * (grid0.coords t 1).val + r.val, by have : (grid0.coords t 1).val < 7 := (grid0.coords t 1).isLt; omega⟩ s ch : ℝ) : EReal) := by
  refine ((Ex.conv_sum _ _ _ _ _).trans (Finset.sum_congr rfl fun i _ => Finset.sum_congr rfl fun j _ => ?_)).trans
    (Lo.coe_response X W (grid0.coords t 0) ⟨32 * (grid0.coords t 1).val + r.val, by have : (grid0.coords t 1).val < 7 := (grid0.coords t 1).isLt; omega⟩ s ch).symm
  have e1 : (iblk m c 1 t : FVec Ideal S7x7x96 .f32) (ix3 j i ch) = ((W i j ch : ℝ) : EReal) := by
    rw [blk1, ws_is, filter_apply]; exact hW i j ch
  have e0 := blk0 m c t ⟨i.val + r.val, by omega⟩ ⟨j.val + s.val, by omega⟩ ch
  rw [img_is] at e0
  refine congrArg₂ (fun a b : EReal => a * b) e1 ((e0.trans (hX _ _ _ _)).trans ?_)
  refine congrArg (fun h => ((X (grid0.coords t 0) h ⟨j.val + s.val, by omega⟩ ch : ℝ) : EReal)) (Fin.ext ?_)
  show 32 * (grid0.coords t 1).val + (i.val + r.val) = i.val + (32 * (grid0.coords t 1).val + r.val)
  omega

include hX hW hβ hg in
/-- What a point adds to its image's row. -/
theorem row_at (t : Fin cfg0.N) (k : Fin 16) :
    k0_pay32 (F := Ideal) (Ex.conv (F := Ideal) (iblk m c 0 t) (iblk m c 1 t) 7) (iblk m c 2 t) ((iblk m c 3 t : FVec Ideal S1x1 .f32) (ix2 0 0)) (ix2 0 k)
      = if h : k.val < 8 then ((Lo.part X W β g (grid0.coords t 0) (grid0.coords t 1) ⟨k.val, h⟩ : ℝ) : EReal) else 0 := by
  rw [row_apply]
  by_cases h : k.val < 8
  · rw [dif_pos h, dif_pos h]
    have e3 : (iblk m c 3 t : FVec Ideal S1x1 .f32) (ix2 0 0) = ((β : ℝ) : EReal) := by
      rw [blk3, rb_is, bias_apply]; exact hβ
    have e2 : ∀ q : Fin 7168, (iblk m c 2 t : FVec Ideal S1x7168x8 .f32) (ix3 0 q ⟨k.val, h⟩)
        = ((g ⟨7168 * (grid0.coords t 1).val + q.val, by have : (grid0.coords t 1).val < 7 := (grid0.coords t 1).isLt; omega⟩ ⟨k.val, h⟩ : ℝ) : EReal) := fun q => by
      rw [blk2, gt_is]; exact (tiles_apply _ _ _ _).trans (hg _ _)
    unfold Lo.part
    rw [EReal.coe_add, EReal.coe_mul, Lo.coe_sum, Lo.coe_sum]
    simp only [Lo.coe_sum, EReal.coe_mul]
    refine congrArg₂ (fun a b : EReal => a + b) ?_ ?_
    · refine Finset.sum_congr rfl fun ch _ => Finset.sum_congr rfl fun q _ => ?_
      exact congrArg₂ (fun a b : EReal => a * b) (conv_at m c X W hX hW t _ _ _) (e2 q)
    · exact congrArg₂ (fun a b : EReal => a * b) e3 (Finset.sum_congr rfl fun q _ => e2 q)
  · rw [dif_neg h, dif_neg h]

/-- The parts the first `n` points have added to an image's logit. -/
def soFar (n : ℕ) (b : Fin 2) (l : Fin 8) : ℝ :=
  ∑ t ∈ Finset.range n, if h : t / 7 = b.val then Lo.part X W β g b ⟨t % 7, Nat.mod_lt _ (by decide)⟩ l else 0

include hX hW hβ hg in
/-- The logits after `n` points. -/
theorem lg_at (n : ℕ) (hn : n ≤ cfg0.N) : Ga.Holds (lg m c n) (soFar X W β g n) := by
  induction n with
  | zero =>
    intro b k
    show k0_pay31 (F := Ideal) (ix2 b k) = _
    rw [fill_apply]
    by_cases h : k.val < 8
    · rw [if_pos h, dif_pos h]; unfold soFar; simp
    · rw [if_neg h, dif_neg h]
  | succ n ih =>
    intro b k
    have hlt : n < cfg0.N := hn
    have old := ih (Nat.le_of_lt hlt) b k
    have co : ∀ t : Fin cfg0.N, (grid0.coords t 0).val = t.val / 7 ∧ (grid0.coords t 1).val = t.val % 7 := by decide +kernel
    obtain ⟨c0, c1⟩ := co ⟨n, hlt⟩
    rw [lg_succ m c ⟨n, hlt⟩]
    rw [step_apply, row_at m c X W β g hX hW hβ hg]
    have start : (if first (grid0.coords ⟨n, hlt⟩) = 1#1 then k0_pay31 (F := Ideal) (ix2 b k) else lg m c n (ix2 b k)) = lg m c n (ix2 b k) := by
      by_cases h : first (grid0.coords ⟨n, hlt⟩) = 1#1
      · rw [if_pos h]
        have h0 : n = 0 := (first_at ⟨n, hlt⟩).1 h
        subst h0; rfl
      · rw [if_neg h]
    refine (congrArg (fun a : EReal => a + _) (start.trans old)).trans ?_
    by_cases h : k.val < 8
    · rw [dif_pos h, dif_pos h, dif_pos h]
      unfold soFar
      rw [Finset.sum_range_succ, EReal.coe_add]
      refine congrArg (fun a : EReal => _ + a) ?_
      by_cases hb : n / 7 = b.val
      · rw [dif_pos hb, if_pos (hb.symm.trans c0.symm)]
        have eb : grid0.coords ⟨n, hlt⟩ 0 = b := Fin.ext (c0.trans hb)
        have ek : grid0.coords ⟨n, hlt⟩ 1 = ⟨n % 7, Nat.mod_lt _ (by decide)⟩ := Fin.ext c1
        rw [eb, ek]; rfl
      · rw [dif_neg hb, if_neg fun e => hb (c0.symm.trans e.symm)]; rfl
    · rw [dif_neg h, dif_neg h, dif_neg h, ite_self, add_zero]

/-- After the last point, every image's logits are whole. -/
theorem soFar_all : soFar X W β g 14 = Lo.logit X W β g := by
  funext b l
  rw [← Lo.parts]
  unfold soFar
  rw [Finset.sum_range, Fin.sum_univ_seven]
  simp only [Fin.sum_univ_succ, Fin.sum_univ_zero]
  match b with
  | ⟨0, _⟩ => simp; ring
  | ⟨1, _⟩ => simp; ring

/-! ## The result arrays -/

include hX hW hβ hg in
/-- The logits the last point leaves. -/
theorem lg_final : Ga.Holds (lg m c 14) (Lo.logit X W β g) := by
  have e := lg_at m c X W β g hX hW hβ hg 14 (by decide +kernel)
  rwa [soFar_all] at e

theorem flush4 : ∀ t : Fin cfg0.N, (cfg0.win 4).flush t = true ↔ t.val = 13 := by decide +kernel
theorem flush5 : ∀ t : Fin cfg0.N, (cfg0.win 5).flush t = true ↔ t.val = 13 := by decide +kernel

theorem last_pt : 13 < cfg0.N := by decide +kernel

theorem flushed4 (t : Fin cfg0.N) (h : (cfg0.win 4).flush t = true) :
    (dats m 0 c).flushed 4 t = ((cfg0.win 4).blk t).view.read (Elt Ideal) (top (lg m c 14)) := by
  show (cfg0.win 4).cut (grid0.coords t) ((dats m 0 c).after 4 t) = _
  rw [after_4, (flush4 t).1 h]
  funext y
  show top (lg m c 14) y = top (lg m c 14) (((cfg0.win 4).blk t).view.emb y)
  refine congrArg (top (lg m c 14)) (funext fun a => Fin.ext ?_)
  match a with
  | ⟨0, _⟩ => show (y 0).val = 0 * 2 + 1 * (y 0).val; omega
  | ⟨1, _⟩ => show (y 1).val = 0 * 16 + 1 * (y 1).val; omega

theorem flushed5 (t : Fin cfg0.N) (h : (cfg0.win 5).flush t = true) :
    (dats m 0 c).flushed 5 t = ((cfg0.win 5).blk t).view.read (Elt Ideal) (bal (lg m c 14)) := by
  show (cfg0.win 5).cut (grid0.coords t) ((dats m 0 c).after 5 t) = _
  rw [after_5, (flush5 t).1 h]
  funext y
  show bal (lg m c 14) y = bal (lg m c 14) (((cfg0.win 5).blk t).view.emb y)
  refine congrArg (bal (lg m c 14)) (funext fun a => Fin.ext ?_)
  match a with
  | ⟨0, _⟩ => show (y 0).val = 0 * 1 + 1 * (y 0).val; omega
  | ⟨1, _⟩ => show (y 1).val = 0 * 1 + 1 * (y 1).val; omega

theorem cover4 (i : S2x16.Idx) : ∃ t : Fin cfg0.N, (cfg0.win 4).flush t = true ∧ i ∈ ((cfg0.win 4).blk t).view.set := by
  have h0 : (i 0 : Nat) < 2 := (i 0).isLt
  have h1 : (i 1 : Nat) < 16 := (i 1).isLt
  refine ⟨⟨13, last_pt⟩, (flush4 _).2 rfl, ?_⟩
  show i ∈ ((View.whole main_v6_0).slice (win0_4.rect ⟨13, last_pt⟩)).set
  rw [View.set_slice_whole, Rect.mem_set_unit]
  intro a
  match a with
  | ⟨0, _⟩ => show 0 * 2 ≤ (i 0 : Nat) ∧ (i 0 : Nat) < 0 * 2 + 2; omega
  | ⟨1, _⟩ => show 0 * 16 ≤ (i 1 : Nat) ∧ (i 1 : Nat) < 0 * 16 + 16; omega

theorem cover5 (i : S1x1.Idx) : ∃ t : Fin cfg0.N, (cfg0.win 5).flush t = true ∧ i ∈ ((cfg0.win 5).blk t).view.set := by
  have h0 : (i 0 : Nat) < 1 := (i 0).isLt
  have h1 : (i 1 : Nat) < 1 := (i 1).isLt
  refine ⟨⟨13, last_pt⟩, (flush5 _).2 rfl, ?_⟩
  show i ∈ ((View.whole main_v6_1).slice (win0_5.rect ⟨13, last_pt⟩)).set
  rw [View.set_slice_whole, Rect.mem_set_unit]
  intro a
  match a with
  | ⟨0, _⟩ => show 0 * 1 ≤ (i 0 : Nat) ∧ (i 0 : Nat) < 0 * 1 + 1; omega
  | ⟨1, _⟩ => show 0 * 1 ≤ (i 1 : Nat) ∧ (i 1 : Nat) < 0 * 1 + 1; omega

/-- The index array ends at the indices of the last logits. -/
theorem final4 : (dats m 0 c).arrAt 4 cfg0.N = top (lg m c 14) :=
  (dats m 0 c).arrAt_eq_of_cover 4 (top (lg m c 14)) (fun t h => flushed4 m c t h) cover4

/-- The loss ends at the loss of the last logits. -/
theorem final5 : (dats m 0 c).arrAt 5 cfg0.N = bal (lg m c 14) :=
  (dats m 0 c).arrAt_eq_of_cover 5 (bal (lg m c 14)) (fun t h => flushed5 m c t h) cover5

/-- The run, read: the two result arrays at the indices and the loss of the last logits. -/
theorem run_value : θ_run defs (onTc (τ := τ) (main (F := Ideal))) ⟨m, fun _ => 0, ρ⟩ fun r => ∀ c : Dev nD,
    r.2.mem ((c.tc : Thread nD τ).loc main_v6_0) = top (lg m c 14) ∧ r.2.mem ((c.tc : Thread nD τ).loc main_v6_1) = bal (lg m c 14) :=
  (θ_run defs _ _).mono (fun _ h c => ⟨((h.1 c).1 4).trans (final4 m c), ((h.1 c).1 5).trans (final5 m c)⟩) (run_main m ρ)

end Cert.Proof.Ro

end
-- ==== Proof.RefGating.lean ====
/-
  The router reference's gating at the reals: its top-two, its gates and its loss from its eight logits.
-/
module

public import proofs.«01_k».proof.Proof.Gating
public import proofs.«01_k».proof.Proof.Gen.RouterReferenceIdeal.Run

@[expose] public section

set_option maxRecDepth 16384

noncomputable section

namespace Cert.Proof.Rg

open Cert.RouterReferenceIdeal Cert.RouterReferenceIdeal.Gen Cert.RouterReferenceIdeal.Value Cert.Proof.To Cert.Proof.Ga
open Idealize.ShloMosaic Idealize.ShloMosaic.TcCoe

/-- The first and the second expert of a row of logits. -/
def fst (L : Fin 8 → ℝ) : Fin 8 := sortedFrom (fun i j => decide (L j < L i)) 0
def snd (L : Fin 8 → ℝ) : Fin 8 := sortedFrom (fun i j => decide (L j < L i)) 1

theorem pair (L : Fin 8 → ℝ) : Pair L (fst L) (snd L) := sorted_pair L _ fun i j => decide_eq_true_iff

theorem along_eq (b : Fin 2) (j k : Fin 8) : Shape.Idx.along (s := S2x8) (ix2 b j) 1 k = ix2 b k := by
  funext a
  match a with
  | ⟨0, _⟩ => rfl
  | ⟨1, _⟩ => rfl

theorem expert_eq (p k : Fin 8) : (BitVec.ofNat 32 p.val = BitVec.ofNat 32 k.val) = (p.val = k.val) := by
  revert k p; decide

theorem opened_ui (g : EReal) : (FloatOps.uitofp (F := Ideal) .f32 (BitVec.ofBool (decide (0 < g))) : EReal) = opened g := by
  unfold opened
  by_cases h : 0 < g
  · rw [if_pos h, decide_eq_true h]
    show (((1#1 : BitVec 1).toNat : ℝ) : EReal) = 1
    norm_num
  · rw [if_neg h, decide_eq_false h]
    show (((0#1 : BitVec 1).toNat : ℝ) : EReal) = 0
    norm_num

theorem bits_eight : Ideal.ofBits .f32 0x41000000#32 = ((8 : ℝ) : EReal) := by
  simp [Ideal.ofBits, Ideal.ieee]
  rw [← EReal.coe_mul]
  norm_num

theorem bits_seven : Ideal.ofBits .f32 0x40E00000#32 = ((7 : ℝ) : EReal) := by
  simp [Ideal.ofBits, Ideal.ieee]
  rw [← EReal.coe_mul]
  norm_num

theorem seven : (Ideal.ofBits .f32 0x41000000#32 - FloatOps.sitofp (F := Ideal) .f32 1#32 : EReal) = Ideal.ofBits .f32 0x40E00000#32 := by
  show (Ideal.ofBits .f32 0x41000000#32 - (((1#32 : BitVec 32).toInt : ℝ) : EReal) : EReal) = Ideal.ofBits .f32 0x40E00000#32
  rw [bits_eight, bits_seven, ← EReal.coe_sub, EReal.coe_eq_coe_iff]
  norm_num

theorem seven_pos : (0 : EReal) < Ideal.ofBits .f32 0x40E00000#32 := by
  rw [bits_seven]
  exact EReal.coe_pos.mpr (by norm_num)

/-- The expert of rank `r` in a row: the first, or the second. -/
def rank (L : Fin 8 → ℝ) (r : Fin 2) : Fin 8 := sortedFrom (fun i j => decide (L j < L i)) ⟨r.val, by omega⟩

theorem rank_zero (L : Fin 8 → ℝ) : rank L 0 = fst L := rfl
theorem rank_one (L : Fin 8 → ℝ) : rank L 1 = snd L := rfl

section

variable (X : FVec Ideal S2x8 .f32) (L : Fin 2 → Fin 8 → ℝ) (hX : ∀ b k, X (ix2 b k) = ((L b k : ℝ) : EReal))
include hX

theorem order (b : Fin 2) (j : Fin 8) :
    (fun k k' : Fin 8 => FloatOps.cmpfTotal (F := Ideal) CmpDirection.gt (X ((ix2 b j).along 1 k)) (X ((ix2 b j).along 1 k')) == 1#1)
      = fun k k' => decide (L b k' < L b k) := by
  funext k k'
  rw [along_eq, along_eq, hX, hX]
  show (BitVec.ofBool (decide (((L b k' : ℝ) : EReal) < ((L b k : ℝ) : EReal))) == 1#1) = _
  simp only [EReal.coe_lt_coe_iff]
  by_cases h : L b k' < L b k
  · rw [decide_eq_true h]; rfl
  · rw [decide_eq_false h]; rfl

theorem topK_values (b r : Fin 2) : (Host.topK S2x2 1 (FloatOps.cmpfTotal .gt) X sliceFits_S2x8_S2x2).1 (ix2 b r)
    = ((L b (rank (L b) r) : ℝ) : EReal) := by
  unfold Host.topK Host.sort2
  pointwise
  erw [order X L hX b _]
  erw [along_eq]
  exact hX _ _

theorem topK_indices (b r : Fin 2) : (Host.topK S2x2 1 (FloatOps.cmpfTotal .gt) X sliceFits_S2x8_S2x2).2 (ix2 b r)
    = BitVec.ofNat 32 (rank (L b) r).val := by
  unfold Host.topK Host.sort2
  pointwise
  erw [order X L hX b _]
  rfl

end

variable (V0 : Valuation τ sig (Elt Ideal)) (L : Fin 2 → Fin 8 → ℝ) (hX : ∀ b k, (res_main_v37 V0 : FVec Ideal S2x8 .f32) (ix2 b k) = ((L b k : ℝ) : EReal))
include hX

theorem values_eq (b r : Fin 2) : (res_main_values V0 : FVec Ideal S2x2 .f32) (ix2 b r) = ((L b (rank (L b) r) : ℝ) : EReal) :=
  topK_values _ L hX b r
theorem indices_eq (b r : Fin 2) : (res_main_indices V0 : IVec S2x2 32) (ix2 b r) = BitVec.ofNat 32 (rank (L b) r).val :=
  topK_indices _ L hX b r

theorem exps_eq (b r : Fin 2) : (res_main_v44 V0 : FVec Ideal S2x2 .f32) (ix2 b r)
    = ((Real.exp (L b (rank (L b) r) - L b (fst (L b))) : ℝ) : EReal) := by
  pointwise [res_main_v44]
  simp only [values_eq V0 L hX]
  erw [Shape.ReducesTo.fold_fiber_r2_a1]
  erw [show (fun k : Fin 2 => (res_main_values V0 : FVec Ideal S2x2 .f32) (ix2 b k)) = fun k => ((L b (rank (L b) k) : ℝ) : EReal) from
    funext fun k => values_eq V0 L hX b k]
  rw [bits_ninf, fold_max_eq (fun k => ((L b (rank (L b) k) : ℝ) : EReal)) ((L b (fst (L b)) : ℝ) : EReal) 0 rfl fun k => EReal.coe_le_coe_iff.mpr ((pair (L b)).le_first _),
    max_eq_right bot_le, ← EReal.coe_sub, Ideal.exp_coe]

theorem gates_eq (b : Fin 2) (k : Fin 8) : (res_main_v57 V0 : FVec Ideal S2x8 .f32) (ix2 b k)
    = gate (L b) (fst (L b)) (snd (L b)) k.val := by
  pointwise [res_main_v57]
  simp only [exps_eq V0 L hX, indices_eq V0 L hX, select_eq, expert_eq]
  have hz : @id (FVec Ideal S_ .f32) (constant (F := Ideal) S_ FTy.f32 0#32) ix0 = (0 : EReal) := Ideal.ofBits_zero .f32
  erw [hz]
  simp only [Fin.sum_univ_two, rank_zero, rank_one, sub_self, Real.exp_zero, EReal.coe_one]
  show (if (fst (L b)).val = k.val then Ideal.div 1 (1 + ((Real.exp (L b (snd (L b)) - L b (fst (L b))) : ℝ) : EReal)) else 0 : EReal)
    + (if (snd (L b)).val = k.val then Ideal.div ((Real.exp (L b (snd (L b)) - L b (fst (L b))) : ℝ) : EReal)
        (1 + ((Real.exp (L b (snd (L b)) - L b (fst (L b))) : ℝ) : EReal)) else 0 : EReal) = _
  unfold gate g1 g2
  have hne := (pair (L b)).ne
  by_cases h1 : k.val = (fst (L b)).val
  · rw [if_pos h1, if_pos (Eq.symm h1), if_neg fun h => hne (Fin.ext (h1.symm.trans h.symm)), add_zero]
  · rw [if_neg h1, if_neg (Ne.symm h1), zero_add]
    by_cases h2 : k.val = (snd (L b)).val
    · rw [if_pos h2, if_pos (Eq.symm h2)]
    · rw [if_neg h2, if_neg (Ne.symm h2)]

theorem importance (k : Fin 8) : (res_main_v58 V0 : FVec Ideal S8 .f32) (ix1 k) = ∑ b, gate (L b) (fst (L b)) (snd (L b)) k.val := by
  pointwise [res_main_v58]
  simp only [gates_eq V0 L hX]

theorem load (k : Fin 8) : (res_main_v62 V0 : FVec Ideal S8 .f32) (ix1 k) = ∑ b, opened (gate (L b) (fst (L b)) (snd (L b)) k.val) := by
  pointwise [res_main_v62]
  simp only [gates_eq V0 L hX]
  simp only [opened_ui]

theorem loss_eq : (shapeCast S1x1 (mulf (addf (Host.divf (select (cmpf .ogt (res_main_call2_v8 V0) (constant S_ .f32 0x00000000#32)) (Host.divf (Host.reduceAdd (mulf (res_main_call2_v5 V0) (res_main_call2_v5 V0)) (constant S_ .f32 0x00000000#32) reducesTo_S8_S_d0 h_S_) (res_main_call2_v8 V0)) (id (constant S_ .f32 0x7FC00000#32))) (addf (mulf (res_main_v65 V0) (res_main_v65 V0)) (constant S_ .f32 0x2EDBE6FF#32))) (Host.divf (select (cmpf .ogt (res_main_call3_v8 V0) (constant S_ .f32 0x00000000#32)) (Host.divf (Host.reduceAdd (mulf (res_main_call3_v5 V0) (res_main_call3_v5 V0)) (constant S_ .f32 0x00000000#32) reducesTo_S8_S_d0 h_S_) (res_main_call3_v8 V0)) (id (constant S_ .f32 0x7FC00000#32))) (addf (mulf (res_main_v71 V0) (res_main_v71 V0)) (constant S_ .f32 0x2EDBE6FF#32)))) (constant S_ .f32 0x3C23D70A#32)) shapeCasts_S_S1x1 : FVec Ideal S1x1 .f32) (ix2 0 0)
    = lossOf fun b k => gate (L b) (fst (L b)) (snd (L b)) k := by
  pointwise [res_main_call2_v8, res_main_call2_v5, res_main_v65, res_main_call3_v8, res_main_call3_v5, res_main_v71]
  simp only [importance V0 L hX, load V0 L hX]
  simp only [seven, if_pos seven_pos]
  rfl

end Cert.Proof.Rg

end
-- ==== Proof.RefLogits.lean ====
/-
  The router reference's logits: with every entry of the arguments a real number they are the plain logits.
-/
module

public import proofs.«01_k».proof.Proof.RefGating
public import proofs.«01_k».proof.Proof.RefValue
public import proofs.«01_k».proof.Proof.Logit

@[expose] public section

set_option maxRecDepth 16384

noncomputable section

namespace Cert.Proof.Rl

open Cert.RouterReferenceIdeal Cert.RouterReferenceIdeal.Gen Cert.RouterReferenceIdeal.Value
open Idealize.ShloMosaic Idealize.ShloMosaic.TcCoe Idealize.ShloMosaic.StableHlo

/-- The router's convolution of the taps, summed over the channels, with its bias. -/
def answers (T : FVec Ideal S7x7x2x96x224x224 .f32) (w : FVec Ideal S1x96x7x7 .f32) (r : FVec Ideal S1 .f32) : FVec Ideal S2x224x224 .f32 :=
  addf (Host.dotGeneral dot_S7x7x2x96x224x224_S96x7x7_S2x224x224_301_012_245_n_n_n none T (shapeCast _ w shapeCasts_S1x96x7x7_S96x7x7))
    (broadcastInDim S2x224x224 ![] bcast_S_S2x224x224 (shapeCast _ r shapeCasts_S1_S_))

/-- The gating product of the answers. -/
def gated (a : FVec Ideal S2x224x224 .f32) (g : FVec Ideal S50176x8 .f32) : FVec Ideal S2x8 .f32 :=
  Host.dotGeneral dot_S2x50176_S50176x8_S2x8_1_0_0_1_n_n none (shapeCast _ a shapeCasts_S2x224x224_S2x50176) g

/-- The dimensions of the router's convolution: it contracts channels, row offsets and column offsets. -/
abbrev D := dot_S7x7x2x96x224x224_S96x7x7_S2x224x224_301_012_245_n_n_n

/-- A contraction index is a channel, a row offset and a column offset. -/
def triple : D.contr.Idx ≃ (⟨3, ![96, 7, 7]⟩ : Shape).Idx :=
  Equiv.piCongrRight fun a : Fin 3 => finCongr (by match a with | ⟨0, _⟩ => rfl | ⟨1, _⟩ => rfl | ⟨2, _⟩ => rfl)

theorem sum_triple (f : D.contr.Idx → EReal) : ∑ k, f k = ∑ c : Fin 96, ∑ i : Fin 7, ∑ j : Fin 7, f (triple.symm (ix3 c i j)) := by
  rw [← Equiv.sum_comp triple.symm f]
  exact sum_idx3 _

theorem left_at (b : Fin 2) (h u : Fin 224) (c : Fin 96) (i j : Fin 7) : D.lhsIdx (ix3 b h u) (triple.symm (ix3 c i j)) = ix6 i j b c h u := by
  funext a
  refine Fin.ext ?_
  match a with
  | ⟨0, _⟩ => rfl
  | ⟨1, _⟩ => rfl
  | ⟨2, _⟩ => rfl
  | ⟨3, _⟩ => rfl
  | ⟨4, _⟩ => rfl
  | ⟨5, _⟩ => rfl

theorem right_at (b : Fin 2) (h u : Fin 224) (c : Fin 96) (i j : Fin 7) : D.rhsIdx (ix3 b h u) (triple.symm (ix3 c i j)) = ix3 c i j := by
  funext a
  refine Fin.ext ?_
  match a with
  | ⟨0, _⟩ => rfl
  | ⟨1, _⟩ => rfl
  | ⟨2, _⟩ => rfl

theorem answers_apply (T : FVec Ideal S7x7x2x96x224x224 .f32) (w : FVec Ideal S1x96x7x7 .f32) (r : FVec Ideal S1 .f32) (b : Fin 2) (h u : Fin 224) :
    answers T w r (ix3 b h u) = ((∑ c : Fin 96, ∑ i : Fin 7, ∑ j : Fin 7, T (ix6 i j b c h u) * w (ix4 0 c i j)) + r (ix1 0) : EReal) := by
  pointwise [answers]
  refine congrArg (fun a : EReal => a + r (ix1 0)) ?_
  show (0 : EReal) + ∑ k : D.contr.Idx, T (D.lhsIdx (ix3 b h u) k) * shapeCast S96x7x7 w shapeCasts_S1x96x7x7_S96x7x7 (D.rhsIdx (ix3 b h u) k) = _
  rw [zero_add, sum_triple]
  refine Finset.sum_congr rfl fun c _ => Finset.sum_congr rfl fun i _ => Finset.sum_congr rfl fun j _ => ?_
  rw [left_at, right_at]
  refine congrArg (fun a : EReal => T (ix6 i j b c h u) * a) ?_
  pointwise

theorem gated_apply (a : FVec Ideal S2x224x224 .f32) (g : FVec Ideal S50176x8 .f32) (b : Fin 2) (l : Fin 8) :
    gated a g (ix2 b l) = ∑ p : Fin 50176, (a (ix3 b ⟨p.val / 224, by omega⟩ ⟨p.val % 224, by omega⟩) * g (ix2 p l) : EReal) := by
  pointwise [gated]

variable (V0 : Valuation τ sig (Elt Ideal))

theorem v37_eq : res_main_v37 (F := Ideal) V0 = gated (answers (Rf.taps (Rf.rows (Rf.padded (V0 (Proc.devRef .tc main_arg0)))))
    (V0 (Proc.devRef .tc main_arg1)) (V0 (Proc.devRef .tc main_arg2))) (V0 (Proc.devRef .tc main_arg3)) := rfl

variable (X : Fin 2 → Fin 230 → Fin 230 → Fin 96 → ℝ) (W : Fin 7 → Fin 7 → Fin 96 → ℝ) (β : ℝ) (g : Fin 50176 → Fin 8 → ℝ)
  (hX : ∀ b h w ch, Rf.padded (F := Ideal) (V0 (Proc.devRef .tc main_arg0)) (ix4 b ch h w) = ((X b h w ch : ℝ) : EReal))
  (hW : ∀ (i j : Fin 7) (ch : Fin 96), (V0 (Proc.devRef .tc main_arg1) : FVec Ideal S1x96x7x7 .f32) (ix4 0 ch i j) = ((W i j ch : ℝ) : EReal))
  (hβ : (V0 (Proc.devRef .tc main_arg2) : FVec Ideal S1 .f32) (ix1 0) = ((β : ℝ) : EReal))
  (hg : ∀ (p : Fin 50176) (l : Fin 8), (V0 (Proc.devRef .tc main_arg3) : FVec Ideal S50176x8 .f32) (ix2 p l) = ((g p l : ℝ) : EReal))

include hX hW hβ in
/-- The router's answer at a position: the channels' responses, summed, and the bias. -/
theorem answer (b : Fin 2) (h u : Fin 224) :
    answers (Rf.taps (Rf.rows (Rf.padded (V0 (Proc.devRef .tc main_arg0))))) (V0 (Proc.devRef .tc main_arg1)) (V0 (Proc.devRef .tc main_arg2)) (ix3 b h u)
      = (((∑ c : Fin 96, Lo.response X W b h u c) + β : ℝ) : EReal) := by
  rw [answers_apply, EReal.coe_add, Lo.coe_sum]
  refine congrArg₂ (fun a b : EReal => a + b) (Finset.sum_congr rfl fun c _ => ?_) hβ
  rw [Lo.coe_response]
  refine Finset.sum_congr rfl fun i _ => Finset.sum_congr rfl fun j _ => ?_
  rw [Rf.taps_apply, Rf.rows_apply, mul_comm]
  exact congrArg₂ (fun a b : EReal => a * b) (hW i j c) (hX _ _ _ _)

include hX hW hβ hg in
/-- The reference's logits are the plain ones. -/
theorem logits_eq (b : Fin 2) (l : Fin 8) : (res_main_v37 (F := Ideal) V0 : FVec Ideal S2x8 .f32) (ix2 b l) = ((Lo.logit X W β g b l : ℝ) : EReal) := by
  refine (congrFun (v37_eq V0) (ix2 b l)).trans ((gated_apply _ _ b l).trans ?_)
  unfold Lo.logit
  rw [Lo.coe_sum]
  refine Finset.sum_congr rfl fun p _ => ?_
  rw [EReal.coe_mul]
  exact congrArg₂ (fun a b : EReal => a * b) (answer V0 X W β hX hW hβ b _ _) (hg p l)

end Cert.Proof.Rl

end
-- ==== Proof.RouteMeet.lean ====
/-
  The router call and its reference brought together: over real arguments both leave the two greatest logits' indices,
  followed by zeros, and the balance loss of their gates.
-/
module

public import proofs.«01_k».proof.Defs
public import proofs.«01_k».proof.Proof.Finite
public import proofs.«01_k».proof.Proof.RouteBits
public import proofs.«01_k».proof.Proof.RouteValue
public import proofs.«01_k».proof.Proof.RefLogits

@[expose] public section

set_option maxRecDepth 16384

noncomputable section

namespace Cert.Proof

open Idealize.ShloMosaic Idealize.ShloMosaic.TcCoe Idealize.SL.Sem Idealize.ShloMosaic.StableHlo

local instance finiteFacts : Cert.Pre_finite.Facts := Cert.Pre_finite.Gen.facts

/-- The number an extended real stands for, where it is one. -/
abbrev num (v : EReal) : ℝ := v.toReal

/-- Both programs pad the input alike; one has turned the channels last before. -/
theorem routed_eq (x : FVec Ideal Cert.RouterIdeal.S2x96x224x224 .f32) (b : Fin 2) (h w : Fin 230) (c : Fin 96) :
    Ro.image x (ix4 b h w c) = Rf.padded x (ix4 b c h w) := by
  pointwise [Cert.Proof.Ro.image, Cert.Proof.Rf.padded]

/-- A padded real image is real. -/
theorem padded_real (x : FVec Ideal Cert.RouterIdeal.S2x96x224x224 .f32) (hx : ∀ y, x y = ((num (x y) : ℝ) : EReal)) (b : Fin 2) (h w : Fin 230) (c : Fin 96) :
    Rf.padded x (ix4 b c h w) = ((num (Rf.padded x (ix4 b c h w)) : ℝ) : EReal) := by
  pointwise [Cert.Proof.Rf.padded]
  split
  · exact hx _
  · exact congrArg (fun r : ℝ => (r : EReal)) (EReal.toReal_coe _).symm

/-- The reference's index array: its two indices and fourteen zeros. -/
theorem lengthened (u : IVec Cert.RouterReferenceIdeal.S2x2 32) (b : Fin 2) (k : Fin 16) :
    pad Cert.RouterReferenceIdeal.S2x16 ![0, 0] ![0, 14] ![0, 0] u (id (constantI Cert.RouterReferenceIdeal.S_ 32 0#32))
      Cert.RouterReferenceIdeal.Gen.facts.pads_S2x2_S2x16_000_0140 Cert.RouterReferenceIdeal.Gen.facts.h_S_ (ix2 b k)
      = if h : k.val < 2 then u (ix2 b ⟨k.val, h⟩) else 0#32 := by
  pointwise
  rfl

section

variable (m : (ℓ : Loc Cert.RouterIdeal.nD Cert.RouterIdeal.τ Cert.RouterIdeal.sig) → Buf (Elt Ideal) ℓ)
  (m' : (ℓ : Loc Cert.RouterReferenceIdeal.nD Cert.RouterReferenceIdeal.τ Cert.RouterReferenceIdeal.sig) → Buf (Elt Ideal) ℓ)
  (c : Dev Cert.RouterIdeal.nD)

/-- The router's input, filter, bias and gating weights, as the kernel is given them. -/
abbrev inX : FVec Ideal Cert.RouterIdeal.S2x96x224x224 .f32 := m ((c.tc : Thread Cert.RouterIdeal.nD Cert.RouterIdeal.τ).loc Cert.RouterIdeal.main_arg0)
abbrev inW : FVec Ideal Cert.RouterIdeal.S1x96x7x7 .f32 := m ((c.tc : Thread Cert.RouterIdeal.nD Cert.RouterIdeal.τ).loc Cert.RouterIdeal.main_arg1)
abbrev inR : FVec Ideal Cert.RouterIdeal.S1 .f32 := m ((c.tc : Thread Cert.RouterIdeal.nD Cert.RouterIdeal.τ).loc Cert.RouterIdeal.main_arg2)
abbrev inG : FVec Ideal Cert.RouterIdeal.S50176x8 .f32 := m ((c.tc : Thread Cert.RouterIdeal.nD Cert.RouterIdeal.τ).loc Cert.RouterIdeal.main_arg3)

/-- The logits of the arguments, as real numbers. -/
def logits : Fin 2 → Fin 8 → ℝ :=
  Lo.logit (fun b h w ch => num (Rf.padded (inX m c) (ix4 b ch h w))) (fun i j ch => num (inW m c (ix4 0 ch i j))) (num (inR m c (ix1 0)))
    (fun p l => num (inG m c (ix2 p l)))

variable (h : Cert.Pre_RouterIdeal_finite m)

include h in
/-- The kernel's last logits. -/
theorem kernel_logits : Ga.Holds (Ro.lg m c 14) (logits m c) := by
  obtain ⟨hx, hw, hr, hg⟩ := Fi.decoded _ _ _ _ (h c)
  exact Ro.lg_final m c _ _ _ _ (fun b i j ch => (routed_eq _ b i j ch).trans (padded_real _ hx b i j ch)) (fun i j ch => hw _) (hr _) (fun p l => hg _)

variable (hag : m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3))

include h hag in
/-- The reference's logits. -/
theorem reference_logits (b : Fin 2) (l : Fin 8) :
    (Cert.RouterReferenceIdeal.Value.res_main_v37 (F := Ideal) (launchContents m' c) : FVec Ideal Cert.RouterReferenceIdeal.S2x8 .f32) (ix2 b l)
      = ((logits m c b l : ℝ) : EReal) := by
  obtain ⟨hx, hw, hr, hg⟩ := Fi.decoded _ _ _ _ (h c)
  obtain ⟨a0, a1, a2, a3⟩ := hag
  refine Rl.logits_eq (launchContents m' c) _ _ _ _ (fun b i j ch => ?_) (fun i j ch => ?_) ?_ (fun p l => ?_) b l
  · exact (congrArg (fun x : FVec Ideal Cert.RouterIdeal.S2x96x224x224 .f32 => Rf.padded x (ix4 b ch i j)) a0).trans (padded_real _ hx b i j ch)
  · exact (congrFun a1 _).trans (hw _)
  · exact (congrFun a2 _).trans (hr _)
  · exact (congrFun a3 _).trans (hg _)

include h hag in
/-- Both programs leave the same indices. -/
theorem indices_meet :
    pad Cert.RouterReferenceIdeal.S2x16 ![0, 0] ![0, 14] ![0, 0] (Cert.RouterReferenceIdeal.Value.res_main_indices (F := Ideal) (launchContents m' c))
      (id (constantI Cert.RouterReferenceIdeal.S_ 32 0#32)) Cert.RouterReferenceIdeal.Gen.facts.pads_S2x2_S2x16_000_0140 Cert.RouterReferenceIdeal.Gen.facts.h_S_
      = Ro.top (Ro.lg m c 14) := by
  funext y
  rw [eq_ix2 y]
  refine (lengthened _ (y 0) (y 1)).trans (Eq.trans ?_ (Ga.top_eq (kernel_logits m c h) (fun b => Rg.pair (logits m c b)) (y 0) (y 1)).symm)
  by_cases h2 : (y 1).val < 2
  · rw [dif_pos h2]
    refine (Rg.indices_eq (launchContents m' c) (logits m c) (reference_logits m m' c h hag) (y 0) _).trans ?_
    by_cases h0 : (y 1).val = 0
    · rw [if_pos h0]
      have e : (⟨(y 1).val, h2⟩ : Fin 2) = 0 := Fin.ext h0
      rw [e]; rfl
    · have h1 : (y 1).val = 1 := by omega
      rw [if_neg h0, if_pos h1]
      have e : (⟨(y 1).val, h2⟩ : Fin 2) = 1 := Fin.ext h1
      rw [e]; rfl
  · rw [dif_neg h2, if_neg (by omega), if_neg (by omega)]

end

/-- The frame of the router call over words. -/
theorem frame_router : @Cert.quiescent_Router Cert.Router.Gen.facts := fun m ρ _ => Ro.frame_bits m ρ

/-- The frame of the router call over extended reals. -/
theorem frame_routerIdeal : @Cert.quiescent_RouterIdeal Cert.RouterIdeal.Gen.facts := fun m ρ _ => Ro.frame m ρ

/-- The same under the precondition. -/
theorem frame_routerIdeal_finite : @Cert.quiescent_RouterIdeal_pre_finite Cert.RouterIdeal.Gen.facts Cert.Pre_finite.Gen.facts :=
  fun m ρ _ => Ro.frame m ρ

/-- The frame of the router's reference, which has no semaphore. -/
theorem frame_routerReference : @Cert.quiescent_RouterReferenceIdeal Cert.RouterReferenceIdeal.Gen.facts :=
  fun m ρ _ => (θ_run Cert.RouterReferenceIdeal.defs _ _).mono (fun r h => ⟨fun c => (h c).2.2, sem_eq_zero_of_no_sems (by decide) r.2⟩)
    (Cert.RouterReferenceIdeal.Value.run (F := Ideal) m ρ)

/-- The same under the precondition. -/
theorem frame_routerReference_finite : @Cert.quiescent_RouterReferenceIdeal_pre_finite Cert.RouterReferenceIdeal.Gen.facts Cert.Pre_finite.Gen.facts :=
  fun m ρ _ => (θ_run Cert.RouterReferenceIdeal.defs _ _).mono (fun r h => ⟨fun c => (h c).2.2, sem_eq_zero_of_no_sems (by decide) r.2⟩)
    (Cert.RouterReferenceIdeal.Value.run (F := Ideal) m ρ)

/-- The router call and its reference end with equal results. -/
theorem equal_router : @Cert.algebraic_RouterIdeal_RouterReferenceIdeal_pre_finite Cert.RouterIdeal.Gen.facts Cert.RouterReferenceIdeal.Gen.facts Cert.Pre_finite.Gen.facts :=
  fun m ρ m' ρ' h hag =>
  ⟨fun c => Ro.top (Ro.lg m c 14), fun c => Ro.bal (Ro.lg m c 14),
    (θ_run Cert.RouterIdeal.defs _ _).mono (fun _ r c => ⟨(r.1 c).1, (r.1 c).2, r.2.1 c⟩)
      (θ_run_and (Ro.run_value m ρ) (Ro.frame m ρ)),
    (θ_run Cert.RouterReferenceIdeal.defs _ _).mono (fun _ r c => ⟨(r c).1.trans (indices_meet m m' c h (hag c)),
      (r c).2.1.trans (funext fun y => by
        obtain rfl : y = ix2 (0 : Fin 1) (0 : Fin 1) := (eq_ix2 y).trans ((ix2_inj ..).2 ⟨Subsingleton.elim (α := Fin 1) _ _, Subsingleton.elim (α := Fin 1) _ _⟩)
        exact (Rg.loss_eq (launchContents m' c) (logits m c) (reference_logits m m' c h (hag c))).trans
          (Ga.bal_eq (kernel_logits m c h) (fun b => Rg.pair (logits m c b))).symm), (r c).2.2⟩)
      (Cert.RouterReferenceIdeal.Value.run (F := Ideal) m' ρ')⟩

end Cert.Proof

end
-- ==== Proof.lean ====
module

public import proofs.«01_k».proof.Defs
public import proofs.«01_k».proof.Proof.Meet
public import proofs.«01_k».proof.Proof.RouteMeet

@[expose] public section

noncomputable section

namespace Cert.Proof

open Idealize.ShloMosaic

theorem claim : Cert.Claim :=
  ⟨Cert.Kernel.Gen.facts, Cert.KernelIdeal.Gen.facts, Cert.ReferenceIdeal.Gen.facts, Cert.Router.Gen.facts, Cert.RouterIdeal.Gen.facts,
    Cert.RouterReferenceIdeal.Gen.facts, Cert.Pre_chosen.Gen.facts, Cert.Pre_finite.Gen.facts,
    frame_kernel, frame_kernelIdeal, frame_reference, frame_router, frame_routerIdeal, frame_routerIdeal_finite, frame_routerReference,
    frame_routerReference_finite, trivial, equal, IdealRules.named_const.statement _ _ _ _ _ rfl, equal_router⟩

end Cert.Proof

end
